-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_d" .f32 0x394CCCCD#32 ((1 / 5120 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_v17) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x6144x5120 : Shape := ⟨3, ![4, 6144, 5120]⟩
abbrev S4x6144 : Shape := ⟨2, ![4, 6144]⟩
abbrev S5120 : Shape := ⟨1, ![5120]⟩
abbrev S5120x1792 : Shape := ⟨2, ![5120, 1792]⟩
abbrev S1792 : Shape := ⟨1, ![1792]⟩
abbrev S24576x5120 : Shape := ⟨2, ![24576, 5120]⟩
abbrev S24576x1 : Shape := ⟨2, ![24576, 1]⟩
abbrev S1x5120 : Shape := ⟨2, ![1, 5120]⟩
abbrev S1x1792 : Shape := ⟨2, ![1, 1792]⟩
abbrev S4x10x6144x128 : Shape := ⟨4, ![4, 10, 6144, 128]⟩
abbrev S4x2x6144x128 : Shape := ⟨4, ![4, 2, 6144, 128]⟩
abbrev S256x5120 : Shape := ⟨2, ![256, 5120]⟩
abbrev S256x1 : Shape := ⟨2, ![256, 1]⟩
abbrev S1x10x256x128 : Shape := ⟨4, ![1, 10, 256, 128]⟩
abbrev S1x2x256x128 : Shape := ⟨4, ![1, 2, 256, 128]⟩
abbrev S256 : Shape := ⟨1, ![256]⟩
abbrev S1x256 : Shape := ⟨2, ![1, 256]⟩
abbrev S256x256 : Shape := ⟨2, ![256, 256]⟩
abbrev S256x1792 : Shape := ⟨2, ![256, 1792]⟩
abbrev S1x128 : Shape := ⟨2, ![1, 128]⟩
abbrev S256x128 : Shape := ⟨2, ![256, 128]⟩
abbrev S1x1x256x128 : Shape := ⟨4, ![1, 1, 256, 128]⟩
abbrev S4x6144x10x128 : Shape := ⟨4, ![4, 6144, 10, 128]⟩
abbrev S4x6144x2x128 : Shape := ⟨4, ![4, 6144, 2, 128]⟩
abbrev S4x6144x1 : Shape := ⟨3, ![4, 6144, 1]⟩

abbrev nBuf : Space → Nat
  | .hbm => 19
  | .vmem => 17
  | .smem => 0
  | _ => 0

abbrev bufTy : (tb : Table) → Fin (tcTables nBuf tb) → BufTy
  | .hbm, ⟨0, _⟩ => ⟨S4x6144x5120, .bf16⟩
  | .hbm, ⟨1, _⟩ => ⟨S4x6144, .i32⟩
  | .hbm, ⟨2, _⟩ => ⟨S5120, .f32⟩
  | .hbm, ⟨3, _⟩ => ⟨S5120x1792, .fp8e4m3⟩
  | .hbm, ⟨4, _⟩ => ⟨S1792, .f32⟩
  | .hbm, ⟨5, _⟩ => ⟨S24576x5120, .bf16⟩
  | .hbm, ⟨6, _⟩ => ⟨S24576x1, .i32⟩
  | .hbm, ⟨7, _⟩ => ⟨S1x5120, .f32⟩
  | .hbm, ⟨8, _⟩ => ⟨S1x1792, .f32⟩
  | .hbm, ⟨9, _⟩ => ⟨S4x10x6144x128, .bf16⟩
  | .hbm, ⟨10, _⟩ => ⟨S4x2x6144x128, .bf16⟩
  | .hbm, ⟨11, _⟩ => ⟨S4x2x6144x128, .bf16⟩
  | .hbm, ⟨12, _⟩ => ⟨S24576x5120, .fp8e4m3⟩
  | .hbm, ⟨13, _⟩ => ⟨S24576x1, .f32⟩
  | .hbm, ⟨14, _⟩ => ⟨S4x6144x10x128, .bf16⟩
  | .hbm, ⟨15, _⟩ => ⟨S4x6144x2x128, .bf16⟩
  | .hbm, ⟨16, _⟩ => ⟨S4x6144x2x128, .bf16⟩
  | .hbm, ⟨17, _⟩ => ⟨S4x6144x5120, .fp8e4m3⟩
  | .hbm, ⟨18, _⟩ => ⟨S4x6144x1, .f32⟩
  | .local _ .vmem, ⟨0, _⟩ => ⟨S256x5120, .bf16⟩
  | .local _ .vmem, ⟨1, _⟩ => ⟨S256x5120, .bf16⟩
  | .local _ .vmem, ⟨2, _⟩ => ⟨S256x1, .i32⟩
  | .local _ .vmem, ⟨3, _⟩ => ⟨S256x1, .i32⟩
  | .local _ .vmem, ⟨4, _⟩ => ⟨S1x5120, .f32⟩
  | .local _ .vmem, ⟨5, _⟩ => ⟨S5120x1792, .fp8e4m3⟩
  | .local _ .vmem, ⟨6, _⟩ => ⟨S1x1792, .f32⟩
  | .local _ .vmem, ⟨7, _⟩ => ⟨S1x10x256x128, .bf16⟩
  | .local _ .vmem, ⟨8, _⟩ => ⟨S1x10x256x128, .bf16⟩
  | .local _ .vmem, ⟨9, _⟩ => ⟨S1x2x256x128, .bf16⟩
  | .local _ .vmem, ⟨10, _⟩ => ⟨S1x2x256x128, .bf16⟩
  | .local _ .vmem, ⟨11, _⟩ => ⟨S1x2x256x128, .bf16⟩
  | .local _ .vmem, ⟨12, _⟩ => ⟨S1x2x256x128, .bf16⟩
  | .local _ .vmem, ⟨13, _⟩ => ⟨S256x5120, .fp8e4m3⟩
  | .local _ .vmem, ⟨14, _⟩ => ⟨S256x5120, .fp8e4m3⟩
  | .local _ .vmem, ⟨15, _⟩ => ⟨S256x1, .f32⟩
  | .local _ .vmem, ⟨16, _⟩ => ⟨S256x1, .f32⟩
  | _, _ => ⟨S4x6144x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c24_i32 : BitVec 32 := 24#32
  let v0 : BitVec 32 := Scalar.divsi arg0 c24_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c24_i32 c0_i32_1
  let v7 : BitVec 32 := Scalar.extui v6
  let c0_i32_2 : BitVec 32 := 0#32
  let v8 : BitVec 1 := Scalar.cmpi .slt c24_i32 c0_i32_2
  let v9 : BitVec 32 := Scalar.extui v8
  let v10 : BitVec 32 := Scalar.subi v7 v9
  let v11 : BitVec 1 := Scalar.cmpi .ne v5 v10
  let v12 : BitVec 32 := Scalar.remsi arg0 c24_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c24_i32_4 : BitVec 32 := 24#32
  let c0_i32_5 : BitVec 32 := 0#32
  let v17 : BitVec 1 := Scalar.cmpi .eq c24_i32_4 c0_i32_5
  let c1_i32_6 : BitVec 32 := 1#32
  let v18 : BitVec 32 := Scalar.select v17 c1_i32_6 c24_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c24_i32 : BitVec 32 := 24#32
  let v0 : BitVec 32 := Scalar.divsi arg0 c24_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c24_i32 c0_i32_1
  let v7 : BitVec 32 := Scalar.extui v6
  let c0_i32_2 : BitVec 32 := 0#32
  let v8 : BitVec 1 := Scalar.cmpi .slt c24_i32 c0_i32_2
  let v9 : BitVec 32 := Scalar.extui v8
  let v10 : BitVec 32 := Scalar.subi v7 v9
  let v11 : BitVec 1 := Scalar.cmpi .ne v5 v10
  let v12 : BitVec 32 := Scalar.remsi arg0 c24_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c24_i32_4 : BitVec 32 := 24#32
  let c0_i32_5 : BitVec 32 := 0#32
  let v17 : BitVec 1 := Scalar.cmpi .eq c24_i32_4 c0_i32_5
  let c1_i32_6 : BitVec 32 := 1#32
  let v18 : BitVec 32 := Scalar.select v17 c1_i32_6 c24_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c24_i32 : BitVec 32 := 24#32
  let v0 : BitVec 32 := Scalar.divsi arg0 c24_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c24_i32 c0_i32_1
  let v7 : BitVec 32 := Scalar.extui v6
  let c0_i32_2 : BitVec 32 := 0#32
  let v8 : BitVec 1 := Scalar.cmpi .slt c24_i32 c0_i32_2
  let v9 : BitVec 32 := Scalar.extui v8
  let v10 : BitVec 32 := Scalar.subi v7 v9
  let v11 : BitVec 1 := Scalar.cmpi .ne v5 v10
  let v12 : BitVec 32 := Scalar.remsi arg0 c24_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c24_i32_4 : BitVec 32 := 24#32
  let c0_i32_5 : BitVec 32 := 0#32
  let v17 : BitVec 1 := Scalar.cmpi .eq c24_i32_4 c0_i32_5
  let c1_i32_6 : BitVec 32 := 1#32
  let v18 : BitVec 32 := Scalar.select v17 c1_i32_6 c24_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5120x1792 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x10x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5120 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "inv_d" => some ((1 / 5120 : ℝ) : EReal)
  | _ => none
-- ==== ReferenceIdeal.lean ====
abbrev S4x6144x5120 : Shape := ⟨3, ![4, 6144, 5120]⟩
abbrev S4x6144 : Shape := ⟨2, ![4, 6144]⟩
abbrev S5120 : Shape := ⟨1, ![5120]⟩
abbrev S5120x1792 : Shape := ⟨2, ![5120, 1792]⟩
abbrev S1792 : Shape := ⟨1, ![1792]⟩
abbrev S_ : Shape := ⟨0, ![]⟩
abbrev S4x6144x1 : Shape := ⟨3, ![4, 6144, 1]⟩
abbrev S1x1x5120 : Shape := ⟨3, ![1, 1, 5120]⟩
abbrev S24576x5120 : Shape := ⟨2, ![24576, 5120]⟩
abbrev S24576x1 : Shape := ⟨2, ![24576, 1]⟩
abbrev S24576x1792 : Shape := ⟨2, ![24576, 1792]⟩
abbrev S24576 : Shape := ⟨1, ![24576]⟩
abbrev S4x6144x1792 : Shape := ⟨3, ![4, 6144, 1792]⟩
abbrev S1x1x1792 : Shape := ⟨3, ![1, 1, 1792]⟩
abbrev S4x6144x1280 : Shape := ⟨3, ![4, 6144, 1280]⟩
abbrev S4x6144x10x128 : Shape := ⟨4, ![4, 6144, 10, 128]⟩
abbrev S4x6144x256 : Shape := ⟨3, ![4, 6144, 256]⟩
abbrev S4x6144x2x128 : Shape := ⟨4, ![4, 6144, 2, 128]⟩
abbrev S64 : Shape := ⟨1, ![64]⟩
abbrev S1x1x64 : Shape := ⟨3, ![1, 1, 64]⟩
abbrev S4x6144x64 : Shape := ⟨3, ![4, 6144, 64]⟩
abbrev S4x6144x1x64 : Shape := ⟨4, ![4, 6144, 1, 64]⟩
abbrev S4x6144x10x64 : Shape := ⟨4, ![4, 6144, 10, 64]⟩
abbrev S4x6144x2x64 : Shape := ⟨4, ![4, 6144, 2, 64]⟩

abbrev nBuf : Space → Nat
  | .hbm => 93
  | .vmem => 5
  | .smem => 0
  | _ => 0

abbrev bufTy : (tb : Table) → Fin (tcTables nBuf tb) → BufTy
  | .hbm, ⟨0, _⟩ => ⟨S4x6144x5120, .bf16⟩
  | .hbm, ⟨1, _⟩ => ⟨S4x6144, .i32⟩
  | .hbm, ⟨2, _⟩ => ⟨S5120, .f32⟩
  | .hbm, ⟨3, _⟩ => ⟨S5120x1792, .fp8e4m3⟩
  | .hbm, ⟨4, _⟩ => ⟨S1792, .f32⟩
  | .hbm, ⟨5, _⟩ => ⟨S4x6144x5120, .f32⟩
  | .hbm, ⟨6, _⟩ => ⟨S4x6144x5120, .f32⟩
  | .hbm, ⟨7, _⟩ => ⟨S_, .f32⟩
  | .hbm, ⟨8, _⟩ => ⟨S4x6144, .f32⟩
  | .hbm, ⟨9, _⟩ => ⟨S4x6144x1, .f32⟩
  | .hbm, ⟨10, _⟩ => ⟨S_, .f32⟩
  | .hbm, ⟨11, _⟩ => ⟨S4x6144x1, .f32⟩
  | .hbm, ⟨12, _⟩ => ⟨S4x6144x1, .f32⟩
  | .hbm, ⟨13, _⟩ => ⟨S_, .f32⟩
  | .hbm, ⟨14, _⟩ => ⟨S4x6144x1, .f32⟩
  | .hbm, ⟨15, _⟩ => ⟨S4x6144x1, .f32⟩
  | .hbm, ⟨16, _⟩ => ⟨S4x6144x1, .f32⟩
  | .hbm, ⟨17, _⟩ => ⟨S4x6144x5120, .f32⟩
  | .hbm, ⟨18, _⟩ => ⟨S4x6144x5120, .f32⟩
  | .hbm, ⟨19, _⟩ => ⟨S1x1x5120, .f32⟩
  | .hbm, ⟨20, _⟩ => ⟨S4x6144x5120, .f32⟩
  | .hbm, ⟨21, _⟩ => ⟨S4x6144x5120, .f32⟩
  | .hbm, ⟨22, _⟩ => ⟨S24576x5120, .f32⟩
  | .hbm, ⟨23, _⟩ => ⟨S24576x5120, .fp8e4m3⟩
  | .hbm, ⟨24, _⟩ => ⟨S24576x1, .f32⟩
  | .hbm, ⟨25, _⟩ => ⟨S24576x1792, .f32⟩
  | .hbm, ⟨26, _⟩ => ⟨S4x6144x5120, .fp8e4m3⟩
  | .hbm, ⟨27, _⟩ => ⟨S4x6144x1, .f32⟩
  | .hbm, ⟨28, _⟩ => ⟨S4x6144x1792, .f32⟩
  | .hbm, ⟨29, _⟩ => ⟨S4x6144x1792, .f32⟩
  | .hbm, ⟨30, _⟩ => ⟨S4x6144x1792, .f32⟩
  | .hbm, ⟨31, _⟩ => ⟨S1x1x1792, .f32⟩
  | .hbm, ⟨32, _⟩ => ⟨S4x6144x1792, .f32⟩
  | .hbm, ⟨33, _⟩ => ⟨S4x6144x1792, .f32⟩
  | .hbm, ⟨34, _⟩ => ⟨S4x6144x1280, .f32⟩
  | .hbm, ⟨35, _⟩ => ⟨S4x6144x10x128, .f32⟩
  | .hbm, ⟨36, _⟩ => ⟨S4x6144x256, .f32⟩
  | .hbm, ⟨37, _⟩ => ⟨S4x6144x2x128, .f32⟩
  | .hbm, ⟨38, _⟩ => ⟨S4x6144x256, .f32⟩
  | .hbm, ⟨39, _⟩ => ⟨S4x6144x2x128, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S4x6144, .f32⟩
  | .hbm, ⟨55, _⟩ => ⟨S4x6144x1, .f32⟩
  | .hbm, ⟨56, _⟩ => ⟨S1x1x64, .f32⟩
  | .hbm, ⟨57, _⟩ => ⟨S4x6144x64, .f32⟩
  | .hbm, ⟨58, _⟩ => ⟨S4x6144x64, .f32⟩
  | .hbm, ⟨59, _⟩ => ⟨S4x6144x64, .f32⟩
  | .hbm, ⟨60, _⟩ => ⟨S4x6144x64, .f32⟩
  | .hbm, ⟨61, _⟩ => ⟨S4x6144x1x64, .f32⟩
  | .hbm, ⟨62, _⟩ => ⟨S4x6144x64, .f32⟩
  | .hbm, ⟨63, _⟩ => ⟨S4x6144x1x64, .f32⟩
  | .hbm, ⟨64, _⟩ => ⟨S4x6144x10x64, .f32⟩
  | .hbm, ⟨65, _⟩ => ⟨S4x6144x10x64, .f32⟩
  | .hbm, ⟨66, _⟩ => ⟨S4x6144x10x64, .f32⟩
  | .hbm, ⟨67, _⟩ => ⟨S4x6144x10x64, .f32⟩
  | .hbm, ⟨68, _⟩ => ⟨S4x6144x10x64, .f32⟩
  | .hbm, ⟨69, _⟩ => ⟨S4x6144x10x64, .f32⟩
  | .hbm, ⟨70, _⟩ => ⟨S4x6144x10x64, .f32⟩
  | .hbm, ⟨71, _⟩ => ⟨S4x6144x10x64, .f32⟩
  | .hbm, ⟨72, _⟩ => ⟨S4x6144x10x64, .f32⟩
  | .hbm, ⟨73, _⟩ => ⟨S4x6144x10x64, .f32⟩
  | .hbm, ⟨74, _⟩ => ⟨S4x6144x10x64, .f32⟩
  | .hbm, ⟨75, _⟩ => ⟨S4x6144x10x64, .f32⟩
  | .hbm, ⟨76, _⟩ => ⟨S4x6144x10x128, .f32⟩
  | .hbm, ⟨77, _⟩ => ⟨S4x6144x10x128, .bf16⟩
  | .hbm, ⟨78, _⟩ => ⟨S4x6144x2x64, .f32⟩
  | .hbm, ⟨79, _⟩ => ⟨S4x6144x2x64, .f32⟩
  | .hbm, ⟨80, _⟩ => ⟨S4x6144x2x64, .f32⟩
  | .hbm, ⟨81, _⟩ => ⟨S4x6144x2x64, .f32⟩
  | .hbm, ⟨82, _⟩ => ⟨S4x6144x2x64, .f32⟩
  | .hbm, ⟨83, _⟩ => ⟨S4x6144x2x64, .f32⟩
  | .hbm, ⟨84, _⟩ => ⟨S4x6144x2x64, .f32⟩
  | .hbm, ⟨85, _⟩ => ⟨S4x6144x2x64, .f32⟩
  | .hbm, ⟨86, _⟩ => ⟨S4x6144x2x64, .f32⟩
  | .hbm, ⟨87, _⟩ => ⟨S4x6144x2x64, .f32⟩
  | .hbm, ⟨88, _⟩ => ⟨S4x6144x2x64, .f32⟩
  | .hbm, ⟨89, _⟩ => ⟨S4x6144x2x64, .f32⟩
  | .hbm, ⟨90, _⟩ => ⟨S4x6144x2x128, .f32⟩
  | .hbm, ⟨91, _⟩ => ⟨S4x6144x2x128, .bf16⟩
  | .hbm, ⟨92, _⟩ => ⟨S4x6144x2x128, .bf16⟩
  | .local _ .vmem, ⟨0, _⟩ => ⟨S24576x5120, .f32⟩
  | .local _ .vmem, ⟨1, _⟩ => ⟨S5120x1792, .fp8e4m3⟩
  | .local _ .vmem, ⟨2, _⟩ => ⟨S24576x5120, .fp8e4m3⟩
  | .local _ .vmem, ⟨3, _⟩ => ⟨S24576x1, .f32⟩
  | .local _ .vmem, ⟨4, _⟩ => ⟨S24576x1792, .f32⟩
  | _, _ => ⟨S4x6144x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S24576x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x1792 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Spec.lean ====
module

public import Idealize.ShloMosaic.Lib.Pointwise

/-!
# The values both programs compute, row by row

Plain functions of extended reals: the RMS norm of one row of tokens, the power of two that scales it, its codes, the
projection of the codes and the rotation of one head's lanes. Both value legs are stated in these words.
-/

@[expose] public section

noncomputable section

namespace Cert.Spec

open Idealize.ShloMosaic

/-- The constant one float32 pattern denotes. -/
abbrev lit (b : BitVec 32) : EReal := Ideal.ofBits .f32 b

/-- One row's RMS norm at column `j`: the entry times the reciprocal root of the mean square plus 1e-6, times the gain. -/
def normRow (x g : Fin 5120 → EReal) (j : Fin 5120) : EReal :=
  x j * Ideal.rsqrt ((∑ k, x k * x k) * ((1 / 5120 : ℝ) : EReal) + lit 897988541#32) * g j

/-- The largest magnitude of a row. -/
def amax (h : Fin 5120 → EReal) : EReal :=
  Finset.fold max (lit 4286578688#32) (fun k => FloatOps.absf (F := Ideal) (φ := .f32) (h k)) Finset.univ

/-- The exponent of a magnitude: the floor of its binary logarithm (at most 127) plus one in the normal range, else 0. -/
def exponent (r : EReal) : EReal :=
  if lit 8388608#32 ≤ r ∧ r < lit 2139095040#32 then
    min (FloatOps.floor (F := Ideal) (φ := .f32) (Ideal.div (Ideal.log r) (Ideal.log (lit 1073741824#32)))) (lit 1123942400#32) + lit 1065353216#32
  else 0

/-- The exponent of a row whose largest magnitude is `a`: the exponent of `a / 448`, and 0 for a row of zeros. -/
def expo (a : EReal) : EReal := if a = 0 then 0 else exponent (a * lit 991054117#32)

/-- A row's scale, a power of two. -/
def scale (h : Fin 5120 → EReal) : EReal := Ideal.exp2 (expo (amax h))

/-- A row's code at column `j`: the entry over the scale, clipped to ±448. -/
def code (h : Fin 5120 → EReal) (j : Fin 5120) : EReal :=
  min (lit 1138753536#32) (max (lit 3286237184#32) (h j * Ideal.exp2 (0 - expo (amax h))))

/-- One projected entry: the codes against a column of the weight, times the row's scale and the column's scale. -/
def proj (h w : Fin 5120 → EReal) (s : EReal) : EReal := (∑ k, code h k * w k) * scale h * s

/-- The angle of lane pair `j` at position `p`: `p` times 10000 to the `-2 j / 128`. -/
def angle (p : BitVec 32) (j : ℕ) : EReal :=
  ((p.toInt : ℝ) : EReal) * Ideal.pow (lit 1176256512#32) (Ideal.div (0 - lit 1073741824#32 * ((j : ℝ) : EReal)) (lit 1124073472#32))

/-- One lane of a rotated head: the first half `y₁ cos − y₂ sin`, the second half `y₂ cos + y₁ sin`. -/
def rot (y : Fin 128 → EReal) (p : BitVec 32) (l : Fin 128) : EReal :=
  if h : l.val < 64 then y l * Ideal.cos (angle p l.val) - y ⟨l.val + 64, by omega⟩ * Ideal.sin (angle p l.val)
  else y l * Ideal.cos (angle p (l.val - 64)) + y ⟨l.val - 64, by omega⟩ * Ideal.sin (angle p (l.val - 64))

/-- The five arguments, read at their indices: tokens, positions, gain, weight, column scales. -/
structure Args where
  /-- The tokens at a batch, a position in the sequence and a column. -/
  x : Fin 4 → Fin 6144 → Fin 5120 → EReal
  /-- The position words. -/
  pos : Fin 4 → Fin 6144 → BitVec 32
  /-- The gain. -/
  g : Fin 5120 → EReal
  /-- The weight. -/
  w : Fin 5120 → Fin 1792 → EReal
  /-- The weight's column scales. -/
  ws : Fin 1792 → EReal

namespace Args
variable (A : Args)

/-- The normalised token row. -/
def h (b : Fin 4) (s : Fin 6144) : Fin 5120 → EReal := normRow (A.x b s) A.g

/-- The projected entry of a token and a column. -/
def y (b : Fin 4) (s : Fin 6144) (n : Fin 1792) : EReal := proj (A.h b s) (fun k => A.w k n) (A.ws n)

/-- One lane of the rotated head whose columns start at `off`. -/
def head (b : Fin 4) (s : Fin 6144) (off : ℕ) (ho : off + 128 ≤ 1792) (l : Fin 128) : EReal :=
  rot (fun l => A.y b s ⟨off + l.val, by omega⟩) (A.pos b s) l

end Args

/-- The batch of a flattened row. -/
def rb (r : Fin 24576) : Fin 4 := ⟨r.val / 6144, by omega⟩
/-- The sequence position of a flattened row. -/
def rs (r : Fin 24576) : Fin 6144 := ⟨r.val % 6144, by omega⟩

/-- The five arguments from their arrays. -/
def mkArgs (x : FVec Ideal ⟨3, ![4, 6144, 5120]⟩ .bf16) (pos : IVec ⟨2, ![4, 6144]⟩ 32) (g : FVec Ideal ⟨1, ![5120]⟩ .f32)
    (w : FVec Ideal ⟨2, ![5120, 1792]⟩ .fp8e4m3) (ws : FVec Ideal ⟨1, ![1792]⟩ .f32) : Args where
  x b s k := x (ix3 b s k)
  pos b s := pos (ix2 b s)
  g k := g (ix1 k)
  w k n := w (ix2 k n)
  ws n := ws (ix1 n)

end Cert.Spec
-- ==== Proof.Exponent.lean ====
module

public import proofs.«01_k».proof.Proof.Spec
public import Idealize.ShloMosaic.Lib.IndicatorCount

/-!
# The exponent by counting powers of two, and by the logarithm

The kernel reads a magnitude's exponent by counting the powers of two at most the magnitude; the reference by the floor of
a quotient of logarithms. The two are one integer.
-/

@[expose] public section

noncomputable section

namespace Cert.Spec

open Idealize.ShloMosaic

/-- The 256 patterns `k <<< 23`. -/
abbrev word (k : Fin 256) : BitVec 32 := IntOp.shli ArithUnit.vector (BitVec.ofNat 32 k.val) 23#32

/-- One less than the number of powers of two at most `r`: the exponent field of `r`. -/
def field (r : EReal) : BitVec 32 :=
  IntOp.subi (Finset.fold IntOp.addi (0#32)
    (fun k : Fin 256 => BitVec.setWidth 32 (BitVec.ofBool (decide (Ideal.ofBits FTy.f32 (word k) ≤ r)))) Finset.univ) 1#32

/-- The exponent as the kernel reads it off the field: the field less 126 in the normal range, else 0. -/
def kexp (r : EReal) : BitVec 32 :=
  Scalar.select (IntOp.ori (IntOp.cmpi .sle (field r) 0#32) (IntOp.cmpi .eq (field r) 255#32)) 0#32
    (IntOp.subi (field r) 126#32)

/-- The fields of the pattern `k <<< 23`: sign 0, exponent `k`, fraction 0. -/
theorem word_fields : ∀ k : Fin 256, (word k).extractLsb' (8 + 23) 1 = 0#1 ∧ ((word k).extractLsb' 23 8).toNat = k.val ∧
    ((word k).extractLsb' 0 23).toNat = 0 := by decide +kernel

/-- A float32 pattern with sign 0, exponent field `k` and fraction 0 denotes 0, a power of two, or infinity. -/
theorem ieee_power (b : BitVec 32) (k : ℕ) (h1 : b.extractLsb' (8 + 23) 1 = 0#1) (h2 : (b.extractLsb' 23 8).toNat = k)
    (h3 : (b.extractLsb' 0 23).toNat = 0) :
    Ideal.ieee 8 23 b = if k = 255 then ⊤ else if k = 0 then 0 else (((2 : ℝ) ^ ((k : ℤ) - 127) : ℝ) : EReal) := by
  unfold Ideal.ieee
  simp only [h1, h2, h3]
  by_cases h : k = 255
  · simp [h]
  by_cases h0 : k = 0
  · simp [h0]
  rw [if_neg (by norm_num; exact h), if_neg h0, if_neg h, if_neg h0]
  congr 1
  rw [show ((k : ℤ) - 127) = 23 + ((k : ℤ) - 127 - 23) by ring, zpow_add₀ (by norm_num)]
  norm_num

/-- The pattern `k <<< 23` denotes 0, a power of two, or infinity. -/
theorem word_value (k : Fin 256) : Ideal.ofBits .f32 (word k) =
    if k.val = 255 then ⊤ else if k.val = 0 then 0 else (((2 : ℝ) ^ ((k.val : ℤ) - 127) : ℝ) : EReal) :=
  ieee_power _ _ (word_fields k).1 (word_fields k).2.1 (word_fields k).2.2

/-- The field is the number of powers at most `r`, less one. -/
theorem field_eq (r : EReal) :
    field r = BitVec.ofNat 32 (Finset.univ.filter fun k : Fin 256 => Ideal.ofBits .f32 (word k) ≤ r).card - 1#32 := by
  unfold field
  rw [IndicatorCount.fold_addi_setWidth_eq_card (fun k : Fin 256 => BitVec.ofBool (decide (Ideal.ofBits FTy.f32 (word k) ≤ r)))]
  have : ∀ k : Fin 256, (BitVec.ofBool (decide (Ideal.ofBits FTy.f32 (word k) ≤ r)) = 1#1) ↔ Ideal.ofBits .f32 (word k) ≤ r := by
    intro k; by_cases h : Ideal.ofBits .f32 (word k) ≤ r <;> simp [h]
  simp only [this]
  rfl

/-- How many of 256 indices are at most `n`. -/
theorem card_le (n : ℕ) (hn : n < 256) : (Finset.univ.filter fun k : Fin 256 => k.val ≤ n).card = n + 1 := by
  rw [show (Finset.univ.filter fun k : Fin 256 => k.val ≤ n) = Finset.Iic (⟨n, hn⟩ : Fin 256) by
    ext k; simp [Fin.le_def], Fin.card_Iic]

theorem lit_min : lit 8388608#32 = (((2 : ℝ) ^ (-126 : ℤ) : ℝ) : EReal) := by
  rw [lit, show (8388608#32) = word 1 by decide, word_value]; norm_num
theorem lit_inf : lit 2139095040#32 = ⊤ := by
  rw [lit, show (2139095040#32) = word 255 by decide, word_value]; norm_num
theorem lit_two : lit 1073741824#32 = ((2 : ℝ) : EReal) := by
  rw [lit, show (1073741824#32) = word 128 by decide, word_value]; norm_num
theorem lit_one : lit 1065353216#32 = ((1 : ℝ) : EReal) := by
  rw [lit, show (1065353216#32) = word 127 by decide, word_value]; norm_num
theorem lit_127 : lit 1123942400#32 = ((127 : ℝ) : EReal) := by
  show Ideal.ieee 8 23 1123942400#32 = _
  unfold Ideal.ieee
  norm_num [show (BitVec.extractLsb' 31 1 (1123942400#32)) = 0#1 by decide, show (BitVec.extractLsb' 23 8 (1123942400#32)) = 133#8 by decide,
    show (BitVec.extractLsb' 0 23 (1123942400#32)) = 8257536#23 by decide]

/-- A field in the normal range gives itself less 126. -/
theorem kexp_normal : ∀ n : Fin 256, 1 ≤ n.val → n.val ≤ 254 →
    Scalar.select (IntOp.ori (IntOp.cmpi .sle (BitVec.ofNat 32 (n.val + 1) - 1#32) 0#32)
      (IntOp.cmpi .eq (BitVec.ofNat 32 (n.val + 1) - 1#32) 255#32)) (0#32) (IntOp.subi (BitVec.ofNat 32 (n.val + 1) - 1#32) 126#32) =
      BitVec.ofInt 32 ((n.val : ℤ) - 126) := by decide +kernel

/-- A power of two is at most a positive real when its exponent is at most the floor of the binary logarithm. -/
theorem pow_le_iff {x : ℝ} (hx : 0 < x) (z : ℤ) : (2 : ℝ) ^ z ≤ x ↔ z ≤ ⌊Real.log x / Real.log 2⌋ := by
  rw [Int.le_floor, le_div_iff₀ (Real.log_pos (by norm_num)), ← Real.log_zpow, Real.log_le_log_iff (by positivity) hx]

/-- The kernel's exponent and the reference's are one small integer. -/
theorem kexp_eq (r : EReal) : ∃ z : ℤ, -128 ≤ z ∧ z ≤ 128 ∧ kexp r = BitVec.ofInt 32 z ∧ exponent r = ((z : ℝ) : EReal) := by
  unfold kexp exponent
  rw [field_eq, lit_min, lit_inf]
  by_cases hlo : (((2 : ℝ) ^ (-126 : ℤ) : ℝ) : EReal) ≤ r
  · induction r using EReal.rec with
    | bot => simp at hlo
    | top =>
      rw [if_neg (by simp)]
      refine ⟨0, by norm_num, by norm_num, ?_, by simp⟩
      rw [show (Finset.univ.filter fun k : Fin 256 => Ideal.ofBits .f32 (word k) ≤ (⊤ : EReal)).card = 256 by simp]
      decide
    | coe x =>
      have hx' : (2 : ℝ) ^ (-126 : ℤ) ≤ x := EReal.coe_le_coe_iff.mp hlo
      have hx : 0 < x := lt_of_lt_of_le (by positivity) hx'
      have hfl := (pow_le_iff hx _).mp hx'
      set f := ⌊Real.log x / Real.log 2⌋ with hf
      obtain ⟨n, hn⟩ : ∃ n : ℕ, (n : ℤ) = min f 127 + 127 := ⟨(min f 127 + 127).toNat, by omega⟩
      have hn1 : 1 ≤ n := by omega
      have hn2 : n ≤ 254 := by omega
      refine ⟨(n : ℤ) - 126, by omega, by omega, ?_, ?_⟩
      · have : (Finset.univ.filter fun k : Fin 256 => Ideal.ofBits .f32 (word k) ≤ (x : EReal)).card = n + 1 := by
          rw [← card_le n (by omega)]
          congr 1
          ext k
          simp only [Finset.mem_filter, Finset.mem_univ, true_and]
          rw [word_value]
          by_cases h : k.val = 255
          · simp [h]; omega
          by_cases h0 : k.val = 0
          · simp [h0, hx.le]
          rw [if_neg h, if_neg h0, EReal.coe_le_coe_iff, pow_le_iff hx, ← hf]
          have := k.isLt
          omega
        rw [this]
        exact kexp_normal ⟨n, by omega⟩ hn1 hn2
      · rw [if_pos ⟨hlo, EReal.coe_lt_top x⟩, lit_two, lit_127, lit_one, Ideal.log_coe, Ideal.log_coe, if_neg (by linarith),
          if_neg (by norm_num), Ideal.div_coe (Real.log_pos (by norm_num)).ne', ← EReal.coe_mul, mul_one_div, Ideal.floor_def]
        show min ((((⌊Real.log x / Real.log 2⌋ : ℤ) : ℝ) : EReal)) _ + _ = _
        rw [← hf, ← EReal.coe_strictMono.monotone.map_min, ← EReal.coe_add]
        congr 1
        have : ((n : ℤ) : ℝ) = ((min f 127 + 127 : ℤ) : ℝ) := by rw [hn]
        push_cast at this ⊢
        linarith
  · rw [if_neg (fun h => hlo h.1)]
    refine ⟨0, by norm_num, by norm_num, ?_, by simp⟩
    have : (Finset.univ.filter fun k : Fin 256 => Ideal.ofBits .f32 (word k) ≤ r).card ≤ 1 := by
      rw [Finset.card_le_one]
      have key : ∀ k : Fin 256, Ideal.ofBits .f32 (word k) ≤ r → k.val = 0 := by
        intro k hk
        by_contra h0
        apply hlo
        refine le_trans ?_ hk
        rw [word_value]
        by_cases h : k.val = 255
        · simp [h]
        rw [if_neg h, if_neg h0, EReal.coe_le_coe_iff]
        exact zpow_le_zpow_right₀ (by norm_num) (by omega)
      intro a ha b hb
      have h1 := key a (Finset.mem_filter.mp ha).2
      have h2 := key b (Finset.mem_filter.mp hb).2
      exact Fin.ext (h1.trans h2.symm)
    interval_cases h : (Finset.univ.filter fun k : Fin 256 => Ideal.ofBits .f32 (word k) ≤ r).card <;> decide

/-- A row's exponent as the kernel has it: an integer, which converted is the reference's, and negated then converted the
reference's negated. -/
theorem expo_eq (a : EReal) :
    ((((if a = 0 then 0#32 else kexp (a * lit 991054117#32)).toInt : ℝ) : EReal) = expo a) ∧
    ((((IntOp.subi 0#32 (if a = 0 then 0#32 else kexp (a * lit 991054117#32))).toInt : ℝ) : EReal) = 0 - expo a) := by
  unfold expo
  by_cases h : a = 0
  · simp [h, IntOp.subi]
  obtain ⟨z, h1, h2, h3, h4⟩ := kexp_eq (a * lit 991054117#32)
  simp only [if_neg h, h3, h4]
  have e1 : (BitVec.ofInt 32 z).toInt = z := BitVec.toInt_ofInt_eq_self (by norm_num) (by norm_num; omega) (by norm_num; omega)
  have e2 : (IntOp.subi 0#32 (BitVec.ofInt 32 z)) = BitVec.ofInt 32 (-z) := by
    show 0#32 - BitVec.ofInt 32 z = _
    rw [BitVec.ofInt_neg, BitVec.zero_sub]
  have e3 : (BitVec.ofInt 32 (-z)).toInt = -z := BitVec.toInt_ofInt_eq_self (by norm_num) (by norm_num; omega) (by norm_num; omega)
  refine ⟨by rw [e1], ?_⟩
  rw [e2, e3, zero_sub]
  push_cast
  rfl

end Cert.Spec
-- ==== Proof.KernelBody.lean ====
module

public import proofs.«01_k».proof.Proof.Gen.KernelIdeal.Frame
public import proofs.«01_k».proof.Proof.Exponent

/-!
# The kernel's payloads at an index

Each value the body computes, read at one index of its block, in the words of `Cert.Spec`.
-/

@[expose] public section

set_option maxRecDepth 16384

noncomputable section

namespace Cert.KernelIdeal

open Idealize.ShloMosaic Idealize.SL.Sem Gen Cert.Spec

/-- The normalised row `i` of a block of tokens. -/
def hrow (x : Vec Ideal S256x5120 .bf16) (g : Vec Ideal S1x5120 .f32) (i : Fin 256) : Fin 5120 → EReal :=
  normRow (fun k => x (ix2 i k)) (fun k => g (ix2 0 k))

/-- The projected entry of row `i` and column `n` of a block. -/
def yrow (x : Vec Ideal S256x5120 .bf16) (g : Vec Ideal S1x5120 .f32) (w : Vec Ideal S5120x1792 .fp8e4m3)
    (s : Vec Ideal S1x1792 .f32) (i : Fin 256) (n : Fin 1792) : EReal :=
  proj (hrow x g i) (fun k => w (ix2 k n)) (s (ix2 0 n))

/-- The named constant `1/5120` at its value. -/
theorem inv_d : Named.named (F := Ideal) κ "inv_d" (φ := .f32) 961334477#32 = ((1 / 5120 : ℝ) : EReal) :=
  IdealRules.named_const.ideal_named_scalar _ _ _ _ rfl

/-- The normalised block at an index. -/
theorem pay5_apply (x : Vec Ideal S256x5120 .bf16) (g : Vec Ideal S1x5120 .f32) (i : Fin 256) (j : Fin 5120) :
    k0_pay5 x g (ix2 i j) = hrow x g i j := by
  pointwise [k0_pay5]
  rw [inv_d]
  rfl

/-- The largest magnitude of a row of the block. -/
theorem pay6_apply (x : Vec Ideal S256x5120 .bf16) (g : Vec Ideal S1x5120 .f32) (i : Fin 256) :
    k0_pay6 x g (ix2 i 0) = amax (hrow x g i) := by
  pointwise [k0_pay6]
  simp only [pay5_apply]
  rfl

/-- The exponent read off the count of powers of two. -/
theorem pay7_apply (x : Vec Ideal S256x5120 .bf16) (g : Vec Ideal S1x5120 .f32) (i : Fin 256) :
    k0_pay7 x g (ix2 i 0) = kexp (amax (hrow x g i) * lit 991054117#32) := by
  rw [← pay6_apply]
  pointwise [k0_pay7]
  rfl

/-- The scale of a row of the block. -/
theorem pay9_apply (x : Vec Ideal S256x5120 .bf16) (g : Vec Ideal S1x5120 .f32) (i : Fin 256) :
    k0_pay9 (k0_pay6 x g) (k0_pay7 x g) (ix2 i 0) = scale (hrow x g i) := by
  pointwise [k0_pay9, k0_pay8]
  rw [pay6_apply, pay7_apply]
  exact congrArg Ideal.exp2 (expo_eq _).1

/-- The codes of the block at an index. -/
theorem pay10_apply (x : Vec Ideal S256x5120 .bf16) (g : Vec Ideal S1x5120 .f32) (i : Fin 256) (j : Fin 5120) :
    k0_pay10 (k0_pay5 x g) (k0_pay6 x g) (k0_pay7 x g) (ix2 i j) = code (hrow x g i) j := by
  pointwise [k0_pay10, k0_pay8]
  rw [pay5_apply, pay6_apply, pay7_apply]
  unfold code
  rw [← (expo_eq _).2]
  rfl

/-- The projection of the block at an index. -/
theorem pay11_apply (x : Vec Ideal S256x5120 .bf16) (g : Vec Ideal S1x5120 .f32) (w : Vec Ideal S5120x1792 .fp8e4m3)
    (s : Vec Ideal S1x1792 .f32) (i : Fin 256) (n : Fin 1792) :
    k0_pay11 (k0_pay5 x g) (k0_pay6 x g) (k0_pay7 x g) w s (ix2 i n) = yrow x g w s i n := by
  pointwise [k0_pay11]
  simp only [pay10_apply, pay9_apply]
  rfl

/-- The pair a lane belongs to. -/
def pair (l : Fin 128) : ℕ := if l.val < 64 then l.val else l.val - 64

/-- The pair the kernel's words give a lane, converted. -/
theorem pair_word : ∀ l : Fin 128, (Scalar.select (IntOp.cmpi CmpIPredicate.slt (BitVec.ofNat 32 l.val) 64#32) (BitVec.ofNat 32 l.val)
    (IntOp.subi (BitVec.ofNat 32 l.val) 64#32)).toInt = (pair l : ℤ) := by decide +kernel

/-- Which lanes the kernel's comparison puts in the first half. -/
theorem half_word : ∀ l : Fin 128, IntOp.cmpi CmpIPredicate.slt (BitVec.ofNat 32 l.val) 64#32 = if l.val < 64 then 1#1 else 0#1 := by
  decide +kernel

/-- The angle at a row and a lane. -/
theorem pay14_apply (p : Vec Ideal S256x1 .i32) (i : Fin 256) (l : Fin 128) :
    k0_pay14 (F := Ideal) k0_pay12 k0_pay13 p (ix2 i l) = angle (p (ix2 i 0)) (pair l) := by
  pointwise [k0_pay12, k0_pay13, k0_pay14]
  unfold angle
  have e : FloatOps.sitofp (F := Ideal) FTy.f32 (Scalar.select (IntOp.cmpi CmpIPredicate.slt (BitVec.ofNat 32 l.val) 64#32)
      (BitVec.ofNat 32 l.val) (IntOp.subi (BitVec.ofNat 32 l.val) 64#32)) = ((pair l : ℝ) : EReal) := by
    show (((_ : ℤ) : ℝ) : EReal) = _
    rw [pair_word]
    push_cast
    rfl
  rw [e]
  rfl

/-- The cosine at a row and a lane. -/
theorem pay15_apply (p : Vec Ideal S256x1 .i32) (i : Fin 256) (l : Fin 128) :
    k0_pay15 (F := Ideal) k0_pay12 k0_pay13 p (ix2 i l) = Ideal.cos (angle (p (ix2 i 0)) (pair l)) := by
  rw [← pay14_apply]
  pointwise [k0_pay15]

/-- The signed sine at a row and a lane: minus the sine in the first half. -/
theorem pay16_apply (p : Vec Ideal S256x1 .i32) (i : Fin 256) (l : Fin 128) :
    k0_pay16 (F := Ideal) (iota .tc S1x128 32 [1] iota_S1x128_d1_w32) k0_pay12 k0_pay13 p (ix2 i l) =
      if l.val < 64 then 0 - Ideal.sin (angle (p (ix2 i 0)) (pair l)) else Ideal.sin (angle (p (ix2 i 0)) (pair l)) := by
  rw [← pay14_apply]
  pointwise [k0_pay16]
  rw [half_word]
  split <;> rfl

/-- A head's lane as the kernel forms it: the lane times the cosine plus the lane half a head away times the signed sine. -/
def headLane (y : FVec Ideal S256x1792 .f32) (c s : FVec Ideal S256x128 .f32) (off : ℕ) (ho : off + 128 ≤ 1792) (i : Fin 256)
    (l : Fin 128) : EReal :=
  y (ix2 i ⟨off + l.val, by omega⟩) * c (ix2 i l) + y (ix2 i ⟨off + (l.val + 128 - 64) % 128, by omega⟩) * s (ix2 i l)

/-- The lane the kernel forms is the rotated head's. -/
theorem headLane_eq (y : FVec Ideal S256x1792 .f32) (p : Vec Ideal S256x1 .i32) (off : ℕ) (ho : off + 128 ≤ 1792) (i : Fin 256)
    (l : Fin 128) :
    headLane y (k0_pay15 k0_pay12 k0_pay13 p) (k0_pay16 (iota .tc S1x128 32 [1] iota_S1x128_d1_w32) k0_pay12 k0_pay13 p) off ho i l =
      rot (fun l => y (ix2 i ⟨off + l.val, by omega⟩)) (p (ix2 i 0)) l := by
  unfold headLane rot
  rw [pay15_apply, pay16_apply]
  unfold pair
  by_cases h : l.val < 64
  · simp only [h, if_true, dif_pos]
    rw [zero_sub, mul_neg, sub_eq_add_neg]
    have e : (l.val + 128 - 64) % 128 = l.val + 64 := by omega
    simp only [e]
  · simp only [h, if_false, dif_neg, not_false_eq_true]
    have e : (l.val + 128 - 64) % 128 = l.val - 64 := by omega
    simp only [e]

end Cert.KernelIdeal
-- ==== Proof.KernelHeads.lean ====
module

public import proofs.«01_k».proof.Proof.KernelBody

/-!
# The kernel's heads at an index

Each of the kernel's stored heads, read at one row and lane: a rotated query or key head as `headLane`, a value head as the
projected entry. The number in each name is the payload's.
-/

@[expose] public section

set_option maxRecDepth 16384

noncomputable section

namespace Cert.KernelIdeal

open Idealize.ShloMosaic Idealize.SL.Sem Gen Cert.Spec

section heads
variable (y : FVec Ideal S256x1792 .f32) (c s : FVec Ideal S256x128 .f32) (p : Vec Ideal S256x1 .i32) (i : Fin 256) (l : Fin 128)

theorem pay17_apply : k0_pay17 y (iota .tc S1x128 32 [1] iota_S1x128_d1_w32) k0_pay12 k0_pay13 p (ix4 0 0 i l) =
    headLane y (k0_pay15 k0_pay12 k0_pay13 p) (k0_pay16 (iota .tc S1x128 32 [1] iota_S1x128_d1_w32) k0_pay12 k0_pay13 p) 0 (by norm_num) i l := by
  unfold k0_pay17 headLane
  generalize k0_pay15 k0_pay12 k0_pay13 p = c
  generalize k0_pay16 _ k0_pay12 k0_pay13 p = s
  pointwise

theorem pay18_apply : k0_pay18 y (iota .tc S1x128 32 [1] iota_S1x128_d1_w32) k0_pay12 k0_pay13 p (ix4 0 0 i l) =
    headLane y (k0_pay15 k0_pay12 k0_pay13 p) (k0_pay16 (iota .tc S1x128 32 [1] iota_S1x128_d1_w32) k0_pay12 k0_pay13 p) 128 (by norm_num) i l := by
  unfold k0_pay18 headLane
  generalize k0_pay15 k0_pay12 k0_pay13 p = c
  generalize k0_pay16 _ k0_pay12 k0_pay13 p = s
  pointwise

theorem pay20_apply : k0_pay20 (k0_pay19 y (iota .tc S1x128 32 [1] iota_S1x128_d1_w32) k0_pay12 k0_pay13 p) (ix4 0 0 i l) =
    headLane y (k0_pay15 k0_pay12 k0_pay13 p) (k0_pay16 (iota .tc S1x128 32 [1] iota_S1x128_d1_w32) k0_pay12 k0_pay13 p) 256 (by norm_num) i l := by
  unfold k0_pay20 k0_pay19 headLane
  generalize k0_pay15 k0_pay12 k0_pay13 p = c
  generalize k0_pay16 _ k0_pay12 k0_pay13 p = s
  pointwise

theorem pay21_apply : k0_pay21 y c s (ix4 0 0 i l) = headLane y c s 384 (by norm_num) i l := by
  unfold headLane; pointwise [k0_pay21]
theorem pay22_apply : k0_pay22 y c s (ix4 0 0 i l) = headLane y c s 512 (by norm_num) i l := by
  unfold headLane; pointwise [k0_pay22]
theorem pay23_apply : k0_pay23 y c s (ix4 0 0 i l) = headLane y c s 640 (by norm_num) i l := by
  unfold headLane; pointwise [k0_pay23]
theorem pay25_apply : k0_pay25 (k0_pay24 y c s) (ix4 0 0 i l) = headLane y c s 768 (by norm_num) i l := by
  unfold headLane; pointwise [k0_pay25, k0_pay24]
theorem pay26_apply : k0_pay26 y c s (ix4 0 0 i l) = headLane y c s 896 (by norm_num) i l := by
  unfold headLane; pointwise [k0_pay26]
theorem pay27_apply : k0_pay27 y c s (ix4 0 0 i l) = headLane y c s 1024 (by norm_num) i l := by
  unfold headLane; pointwise [k0_pay27]
theorem pay28_apply : k0_pay28 y c s (ix4 0 0 i l) = headLane y c s 1152 (by norm_num) i l := by
  unfold headLane; pointwise [k0_pay28]
theorem pay1_apply : k0_pay1 (k0_pay29 y c s) (ix4 0 0 i l) = headLane y c s 1280 (by norm_num) i l := by
  unfold headLane; pointwise [k0_pay1, k0_pay29]
theorem pay3_apply : k0_pay3 y c s (ix4 0 0 i l) = headLane y c s 1408 (by norm_num) i l := by
  unfold headLane; pointwise [k0_pay3]
theorem pay2_apply : k0_pay2 y (ix4 0 0 i l) = y (ix2 i ⟨1536 + l.val, by omega⟩) := by
  pointwise [k0_pay2]
theorem pay4_apply : k0_pay4 y (ix4 0 0 i l) = y (ix2 i ⟨1664 + l.val, by omega⟩) := by
  pointwise [k0_pay4]

end heads

end Cert.KernelIdeal
-- ==== Proof.KernelBlocks.lean ====
module

public import proofs.«01_k».proof.Proof.KernelHeads
public import Idealize.ShloMosaic.Lib.Pipeline.ValueKit

/-!
# What one grid point leaves in the output blocks

Each output block read at an index, over the five input blocks.
-/

@[expose] public section

set_option maxRecDepth 16384

noncomputable section

namespace Cert.KernelIdeal

open Idealize.ShloMosaic Idealize.SL.Sem Gen Cert.Spec

section out
variable (x0 : Vec Ideal S256x5120 .bf16) (x1 : Vec Ideal S256x1 .i32) (x2 : Vec Ideal S1x5120 .f32)
  (x3 : Vec Ideal S5120x1792 .fp8e4m3) (x4 : Vec Ideal S1x1792 .f32)

theorem hz2 : (![0, 0] : Fin 2 → Nat) = fun _ => 0 := funext fun a => by fin_cases a <;> rfl

/-- The projected block. -/
theorem pay34_apply (i : Fin 256) (n : Fin 1792) : k0_pay34 x0 x1 x2 x3 x4 (ix2 i n) = yrow x0 x2 x3 x4 i n := by
  unfold k0_pay34 k0_pay30 k0_pay31 k0_pay32
  rw [View.ld_unit_zero hz2, View.ld_unit_zero hz2, View.ld_unit_zero hz2, View.ld_unit_zero hz2]
  exact pay11_apply _ _ _ _ _ _

/-- The cosines' block. -/
theorem pay37_eq : k0_pay37 x0 x1 x2 x3 x4 = k0_pay15 k0_pay12 k0_pay13 x1 := by
  unfold k0_pay37 k0_pay35 k0_pay36
  rw [View.ld_unit_zero hz2]

/-- The signed sines' block. -/
theorem pay38_eq : k0_pay38 x0 x1 x2 x3 x4 = k0_pay16 (iota .tc S1x128 32 [1] iota_S1x128_d1_w32) k0_pay12 k0_pay13 x1 := by
  unfold k0_pay38 k0_pay33 k0_pay35 k0_pay36
  rw [View.ld_unit_zero hz2]

/-- The codes' block. -/
theorem out8_apply (i : Fin 256) (j : Fin 5120) : out0_8 x0 x1 x2 x3 x4 (ix2 i j) = code (hrow x0 x2 i) j := by
  unfold out0_8 k0_pay30 k0_pay31 k0_pay32
  rw [View.canon_unit_zero hz2, View.ld_unit_zero hz2, View.ld_unit_zero hz2]
  exact pay10_apply _ _ _ _

/-- The scales' block. -/
theorem out9_apply (i : Fin 256) : out0_9 x0 x1 x2 x3 x4 (ix2 i 0) = scale (hrow x0 x2 i) := by
  unfold out0_9 k0_pay31 k0_pay32
  rw [View.canon_unit_zero hz2, View.ld_unit_zero hz2, View.ld_unit_zero hz2]
  exact pay9_apply _ _ _

/-- One lane of the rotated head of row `i` whose columns start at `off`. -/
def headRow (off : ℕ) (ho : off + 128 ≤ 1792) (i : Fin 256) (l : Fin 128) : EReal :=
  rot (fun l => yrow x0 x2 x3 x4 i ⟨off + l.val, by omega⟩) (x1 (ix2 i 0)) l

/-- A head formed from the projected block, the cosines and the signed sines is the rotated head. -/
theorem headLane_row (off : ℕ) (ho : off + 128 ≤ 1792) (i : Fin 256) (l : Fin 128) :
    headLane (k0_pay34 x0 x1 x2 x3 x4) (k0_pay37 x0 x1 x2 x3 x4) (k0_pay38 x0 x1 x2 x3 x4) off ho i l =
      headRow x0 x1 x2 x3 x4 off ho i l := by
  rw [pay37_eq, pay38_eq, headLane_eq]
  unfold headRow
  simp only [pay34_apply]

/-- The same, with the cosines and sines spelt over the position block. -/
theorem headLane_row' (off : ℕ) (ho : off + 128 ≤ 1792) (i : Fin 256) (l : Fin 128) :
    headLane (k0_pay34 x0 x1 x2 x3 x4) (k0_pay15 k0_pay12 k0_pay13 x1)
      (k0_pay16 (iota .tc S1x128 32 [1] iota_S1x128_d1_w32) k0_pay12 k0_pay13 x1) off ho i l =
      headRow x0 x1 x2 x3 x4 off ho i l := by
  rw [headLane_eq]
  unfold headRow
  simp only [pay34_apply]

/-- An index of a stored head has zero batch and head coordinates. -/
theorem one_head (x : S1x1x256x128.Idx) : ∃ (i : Fin 256) (l : Fin 128), x = ix4 0 0 i l := by
  refine ⟨x 2, x 3, ?_⟩
  funext a
  fin_cases a
  · exact Subsingleton.elim (α := Fin 1) _ _
  · exact Subsingleton.elim (α := Fin 1) _ _
  · rfl
  · rfl

/-- The query heads' block: head `y 1` rotated. -/
def Q (y : S1x10x256x128.Idx) : EReal :=
  headRow x0 x1 x2 x3 x4 (128 * (y 1).val) (by have := (y 1).isLt; change (y 1).val < 10 at this; omega) (y 2) (y 3)

/-- The query heads' block at the place of head `k`. -/
theorem Q_at (y : S1x10x256x128.Idx) (k : ℕ) (i : Fin 256) (l : Fin 128) (ho : 128 * k + 128 ≤ 1792) (h1 : (y 1).val = k)
    (h2 : (y 2).val = i.val) (h3 : (y 3).val = l.val) : headRow x0 x1 x2 x3 x4 (128 * k) ho i l = Q x0 x1 x2 x3 x4 y := by
  subst h1
  unfold Q
  rw [show y 2 = i from Fin.ext h2, show y 3 = l from Fin.ext h3]

/-- The query heads' block. -/
theorem out5_apply (y : S1x10x256x128.Idx) : out0_5 x0 x1 x2 x3 x4 y = Q x0 x1 x2 x3 x4 y := by
  unfold out0_5 k0_pay33 k0_pay35 k0_pay36
  rw [View.ld_unit_zero hz2]
  refine View.canon_apply_of_pieces (Val := Elt Ideal) (Q x0 x1 x2 x3 x4) _ (fun p hp x => ?_) y (cover0_5 _ _ _ _ _ _ _ _ _ _ y)
  simp only [List.mem_cons, List.mem_nil_iff, or_false] at hp
  rcases hp with rfl | rfl | rfl | rfl | rfl | rfl | rfl | rfl | rfl | rfl
  all_goals
    change S1x1x256x128.Idx at x
    obtain ⟨i, l, rfl⟩ := one_head x
    dsimp only
  · rw [pay28_apply, headLane_row]; exact Q_at _ _ _ _ _ _ 9 i l _ rfl (show 0 + 1 * i.val = i.val by omega) (show 0 + 1 * l.val = l.val by omega)
  · rw [pay27_apply, headLane_row]; exact Q_at _ _ _ _ _ _ 8 i l _ rfl (show 0 + 1 * i.val = i.val by omega) (show 0 + 1 * l.val = l.val by omega)
  · rw [pay26_apply, headLane_row]; exact Q_at _ _ _ _ _ _ 7 i l _ rfl (show 0 + 1 * i.val = i.val by omega) (show 0 + 1 * l.val = l.val by omega)
  · rw [pay25_apply, headLane_row]; exact Q_at _ _ _ _ _ _ 6 i l _ rfl (show 0 + 1 * i.val = i.val by omega) (show 0 + 1 * l.val = l.val by omega)
  · rw [pay23_apply, headLane_row]; exact Q_at _ _ _ _ _ _ 5 i l _ rfl (show 0 + 1 * i.val = i.val by omega) (show 0 + 1 * l.val = l.val by omega)
  · rw [pay22_apply, headLane_row]; exact Q_at _ _ _ _ _ _ 4 i l _ rfl (show 0 + 1 * i.val = i.val by omega) (show 0 + 1 * l.val = l.val by omega)
  · rw [pay21_apply, headLane_row]; exact Q_at _ _ _ _ _ _ 3 i l _ rfl (show 0 + 1 * i.val = i.val by omega) (show 0 + 1 * l.val = l.val by omega)
  · rw [pay20_apply, headLane_row']; exact Q_at _ _ _ _ _ _ 2 i l _ rfl (show 0 + 1 * i.val = i.val by omega) (show 0 + 1 * l.val = l.val by omega)
  · rw [pay18_apply, headLane_row']; exact Q_at _ _ _ _ _ _ 1 i l _ rfl (show 0 + 1 * i.val = i.val by omega) (show 0 + 1 * l.val = l.val by omega)
  · rw [pay17_apply, headLane_row']; exact Q_at _ _ _ _ _ _ 0 i l _ rfl (show 0 + 1 * i.val = i.val by omega) (show 0 + 1 * l.val = l.val by omega)

/-- The key heads' block: head `y 1` rotated. -/
def K (y : S1x2x256x128.Idx) : EReal :=
  headRow x0 x1 x2 x3 x4 (1280 + 128 * (y 1).val) (by have := (y 1).isLt; change (y 1).val < 2 at this; omega) (y 2) (y 3)

/-- The key heads' block at the place of head `k`. -/
theorem K_at (y : S1x2x256x128.Idx) (k : ℕ) (i : Fin 256) (l : Fin 128) (ho : 1280 + 128 * k + 128 ≤ 1792) (h1 : (y 1).val = k)
    (h2 : (y 2).val = i.val) (h3 : (y 3).val = l.val) :
    headRow x0 x1 x2 x3 x4 (1280 + 128 * k) ho i l = K x0 x1 x2 x3 x4 y := by
  subst h1
  unfold K
  rw [show y 2 = i from Fin.ext h2, show y 3 = l from Fin.ext h3]

/-- The key heads' block. -/
theorem out6_apply (y : S1x2x256x128.Idx) : out0_6 x0 x1 x2 x3 x4 y = K x0 x1 x2 x3 x4 y := by
  unfold out0_6
  refine View.canon_apply_of_pieces (Val := Elt Ideal) (K x0 x1 x2 x3 x4) _ (fun p hp x => ?_) y (cover0_6 _ _ y)
  simp only [List.mem_cons, List.mem_nil_iff, or_false] at hp
  rcases hp with rfl | rfl
  all_goals
    change S1x1x256x128.Idx at x
    obtain ⟨i, l, rfl⟩ := one_head x
    dsimp only
  · rw [pay3_apply, headLane_row]; exact K_at _ _ _ _ _ _ 1 i l _ rfl (show 0 + 1 * i.val = i.val by omega) (show 0 + 1 * l.val = l.val by omega)
  · rw [pay1_apply, headLane_row]; exact K_at _ _ _ _ _ _ 0 i l _ rfl (show 0 + 1 * i.val = i.val by omega) (show 0 + 1 * l.val = l.val by omega)

/-- The value heads' block: the projected columns of head `y 1`. -/
def W (y : S1x2x256x128.Idx) : EReal :=
  yrow x0 x2 x3 x4 (y 2) ⟨1536 + 128 * (y 1).val + (y 3).val, by
    have := (y 1).isLt; change (y 1).val < 2 at this; have := (y 3).isLt; change (y 3).val < 128 at this; omega⟩

/-- The value heads' block at the place of head `k`. -/
theorem W_at (y : S1x2x256x128.Idx) (k : ℕ) (i : Fin 256) (l : Fin 128) (ho : 1536 + 128 * k + l.val < 1792) (h1 : (y 1).val = k)
    (h2 : (y 2).val = i.val) (h3 : (y 3).val = l.val) :
    yrow x0 x2 x3 x4 i ⟨1536 + 128 * k + l.val, ho⟩ = W x0 x2 x3 x4 y := by
  subst h1
  unfold W
  congr 1
  · exact Fin.ext h2.symm
  · exact Fin.ext (by simp only [h3])

/-- The value heads' block. -/
theorem out7_apply (y : S1x2x256x128.Idx) : out0_7 x0 x1 x2 x3 x4 y = W x0 x2 x3 x4 y := by
  unfold out0_7
  refine View.canon_apply_of_pieces (Val := Elt Ideal) (W x0 x2 x3 x4) _ (fun p hp x => ?_) y (cover0_7 _ _ y)
  simp only [List.mem_cons, List.mem_nil_iff, or_false] at hp
  rcases hp with rfl | rfl
  all_goals
    change S1x1x256x128.Idx at x
    obtain ⟨i, l, rfl⟩ := one_head x
    dsimp only
  · rw [pay4_apply, pay34_apply]; exact W_at _ _ _ _ _ 1 i l _ rfl (show 0 + 1 * i.val = i.val by omega) (show 0 + 1 * l.val = l.val by omega)
  · rw [pay2_apply, pay34_apply]; exact W_at _ _ _ _ _ 0 i l _ rfl (show 0 + 1 * i.val = i.val by omega) (show 0 + 1 * l.val = l.val by omega)

end out

end Cert.KernelIdeal
-- ==== Proof.KernelReads.lean ====
module

public import proofs.«01_k».proof.Proof.Gen.KernelIdeal.Frame
public import proofs.«01_k».proof.Proof.Spec
public import Idealize.ShloMosaic.Lib.Pipeline.ValueKit
public import Idealize.ShloMosaic.Lib.Claim

/-!
# The kernel's input blocks at an index

Each input block read at an index is the argument array at the token, column or position the block places it at.
-/

@[expose] public section

set_option maxRecDepth 16384

noncomputable section

namespace Cert.KernelIdeal

open Idealize.ShloMosaic Idealize.ShloMosaic.TcCoe Idealize.SL.Sem Gen Cert.Spec

variable (m : (ℓ : Loc nD τ sig) → Buf (Elt Ideal) ℓ)

/-- The arguments the kernel starts with. -/
def args (c : Dev nD) : Args :=
  mkArgs (m ((c : Thread nD τ).loc main_arg0)) (m ((c : Thread nD τ).loc main_arg1)) (m ((c : Thread nD τ).loc main_arg2))
    (m ((c : Thread nD τ).loc main_arg3)) (m ((c : Thread nD τ).loc main_arg4))

/-- The windows' block indices at every grid point. -/
theorem idx : ∀ t : Fin cfg0.N, win0_0.index t = ![t.val, 0] ∧ win0_1.index t = ![t.val, 0] ∧ win0_2.index t = ![0, 0] ∧
    win0_3.index t = ![0, 0] ∧ win0_4.index t = ![0, 0] ∧ win0_5.index t = ![t.val / 24, 0, t.val % 24, 0] ∧
    win0_6.index t = ![t.val / 24, 0, t.val % 24, 0] ∧ win0_7.index t = ![t.val / 24, 0, t.val % 24, 0] ∧
    win0_8.index t = ![t.val, 0] ∧ win0_9.index t = ![t.val, 0] :=
  (by decide +kernel : ∀ t : Fin grid0.N, _)

/-- The flattened row of row `i` of block `t`. -/
def grow (t : Fin cfg0.N) (i : Fin 256) : Fin 24576 := ⟨t.val * 256 + i.val, by have := lt_of_lt_of_eq t.isLt N_0; omega⟩

/-- The tokens' buffer at the region's entry: the tokens, flattened. -/
theorem V_v0 (c : Dev nD) : V m c main_v0 =
    shapeCast S24576x5120 (m ((c : Thread nD τ).loc main_arg0) : Vec Ideal S4x6144x5120 .bf16) shapeCasts_S4x6144x5120_S24576x5120 := by
  show StableHlo.after [StableHlo.reshape main_arg0 main_v0 _ _, StableHlo.reshape main_arg1 main_v1 _ _,
    StableHlo.reshape main_arg2 main_v2 _ _, StableHlo.reshape main_arg4 main_v3 _ _] _ (Proc.devRef .tc main_v0) = _
  after_results
  try rfl

/-- The positions' buffer at the region's entry: the positions, flattened. -/
theorem V_v1 (c : Dev nD) : V m c main_v1 =
    shapeCast S24576x1 (m ((c : Thread nD τ).loc main_arg1) : Vec Ideal S4x6144 .i32) shapeCasts_S4x6144_S24576x1 := by
  show StableHlo.after [StableHlo.reshape main_arg0 main_v0 _ _, StableHlo.reshape main_arg1 main_v1 _ _,
    StableHlo.reshape main_arg2 main_v2 _ _, StableHlo.reshape main_arg4 main_v3 _ _] _ (Proc.devRef .tc main_v1) = _
  after_results
  try rfl

/-- The gain's buffer at the region's entry. -/
theorem V_v2 (c : Dev nD) : V m c main_v2 =
    shapeCast S1x5120 (m ((c : Thread nD τ).loc main_arg2) : Vec Ideal S5120 .f32) shapeCasts_S5120_S1x5120 := by
  show StableHlo.after [StableHlo.reshape main_arg0 main_v0 _ _, StableHlo.reshape main_arg1 main_v1 _ _,
    StableHlo.reshape main_arg2 main_v2 _ _, StableHlo.reshape main_arg4 main_v3 _ _] _ (Proc.devRef .tc main_v2) = _
  after_results
  try rfl

/-- The column scales' buffer at the region's entry. -/
theorem V_v3 (c : Dev nD) : V m c main_v3 =
    shapeCast S1x1792 (m ((c : Thread nD τ).loc main_arg4) : Vec Ideal S1792 .f32) shapeCasts_S1792_S1x1792 := by
  show StableHlo.after [StableHlo.reshape main_arg0 main_v0 _ _, StableHlo.reshape main_arg1 main_v1 _ _,
    StableHlo.reshape main_arg2 main_v2 _ _, StableHlo.reshape main_arg4 main_v3 _ _] _ (Proc.devRef .tc main_v3) = _
  after_results
  try rfl

/-- The flattened tokens at a row and a column. -/
theorem cast_x (X : Vec Ideal S4x6144x5120 .bf16) (r : Fin 24576) (k : Fin 5120) :
    shapeCast S24576x5120 X shapeCasts_S4x6144x5120_S24576x5120 (ix2 r k) = X (ix3 (rb r) (rs r) k) := by
  unfold rb rs
  pointwise

/-- The flattened positions at a row. -/
theorem cast_p (X : Vec Ideal S4x6144 .i32) (r : Fin 24576) :
    shapeCast S24576x1 X shapeCasts_S4x6144_S24576x1 (ix2 r 0) = X (ix2 (rb r) (rs r)) := by
  unfold rb rs
  pointwise

/-- The gain as a row. -/
theorem cast_g (X : Vec Ideal S5120 .f32) (k : Fin 5120) :
    shapeCast S1x5120 X shapeCasts_S5120_S1x5120 (ix2 0 k) = X (ix1 k) := by
  pointwise

/-- The column scales as a row. -/
theorem cast_s (X : Vec Ideal S1792 .f32) (k : Fin 1792) :
    shapeCast S1x1792 X shapeCasts_S1792_S1x1792 (ix2 0 k) = X (ix1 k) := by
  pointwise

/-- The token block. -/
theorem iblk0 (c : Dev nD) (t : Fin cfg0.N) (i : Fin 256) (k : Fin 5120) :
    (iblk m c 0 t : Vec Ideal S256x5120 .bf16) (ix2 i k) = (args m c).x (rb (grow t i)) (rs (grow t i)) k := by
  unfold args mkArgs
  have e : (((cfg0.win 0).blk t).view.emb (ix2 i k)) = (ix2 (grow t i) k : S24576x5120.Idx) := by
    unfold grow; blk_ext [idx t]
  show V m c main_v0 (((cfg0.win 0).blk t).view.emb (ix2 i k)) = _
  rw [e, V_v0]
  exact cast_x _ _ _

/-- The position block. -/
theorem iblk1 (c : Dev nD) (t : Fin cfg0.N) (i : Fin 256) :
    (iblk m c 1 t : Vec Ideal S256x1 .i32) (ix2 i 0) = (args m c).pos (rb (grow t i)) (rs (grow t i)) := by
  unfold args mkArgs
  have e : (((cfg0.win 1).blk t).view.emb (ix2 i 0)) = (ix2 (grow t i) 0 : S24576x1.Idx) := by
    unfold grow; blk_ext [idx t]
  show V m c main_v1 (((cfg0.win 1).blk t).view.emb (ix2 i 0)) = _
  rw [e, V_v1]
  exact cast_p _ _

/-- The gain block. -/
theorem iblk2 (c : Dev nD) (t : Fin cfg0.N) (k : Fin 5120) :
    (iblk m c 2 t : Vec Ideal S1x5120 .f32) (ix2 0 k) = (args m c).g k := by
  unfold args mkArgs
  have e : (((cfg0.win 2).blk t).view.emb (ix2 0 k)) = (ix2 0 k : S1x5120.Idx) := by
    blk_ext [idx t]
  show V m c main_v2 (((cfg0.win 2).blk t).view.emb (ix2 0 k)) = _
  rw [e, V_v2]
  exact cast_g _ _

/-- The weight block. -/
theorem iblk3 (c : Dev nD) (t : Fin cfg0.N) (k : Fin 5120) (n : Fin 1792) :
    (iblk m c 3 t : Vec Ideal S5120x1792 .fp8e4m3) (ix2 k n) = (args m c).w k n := by
  unfold args mkArgs
  blk_ext [iblk, V, idx t]

/-- The column scales' block. -/
theorem iblk4 (c : Dev nD) (t : Fin cfg0.N) (n : Fin 1792) :
    (iblk m c 4 t : Vec Ideal S1x1792 .f32) (ix2 0 n) = (args m c).ws n := by
  unfold args mkArgs
  have e : (((cfg0.win 4).blk t).view.emb (ix2 0 n)) = (ix2 0 n : S1x1792.Idx) := by
    blk_ext [idx t]
  show V m c main_v3 (((cfg0.win 4).blk t).view.emb (ix2 0 n)) = _
  rw [e, V_v3]
  exact cast_s _ _

end Cert.KernelIdeal
-- ==== Proof.KernelArrays.lean ====
module

public import proofs.«01_k».proof.Proof.KernelBlocks
public import proofs.«01_k».proof.Proof.KernelReads

/-!
# The kernel's five result arrays

Each array the kernel writes, after all its grid points, as a function of the arguments.
-/

@[expose] public section

set_option maxRecDepth 16384

noncomputable section

namespace Cert.KernelIdeal

open Idealize.ShloMosaic Idealize.ShloMosaic.TcCoe Idealize.SL.Sem Gen Cert.Spec

variable (m : (ℓ : Loc nD τ sig) → Buf (Elt Ideal) ℓ)

/-- A block's normalised row is the token's. -/
theorem hrow_blk (c : Dev nD) (t : Fin cfg0.N) (i : Fin 256) :
    hrow (iblk m c 0 t) (iblk m c 2 t) i = (args m c).h (rb (grow t i)) (rs (grow t i)) := by
  unfold hrow Args.h
  rw [show (fun k => (iblk m c 0 t : Vec Ideal S256x5120 .bf16) (ix2 i k)) = (args m c).x (rb (grow t i)) (rs (grow t i)) from
      funext fun k => iblk0 m c t i k,
    show (fun k => (iblk m c 2 t : Vec Ideal S1x5120 .f32) (ix2 0 k)) = (args m c).g from funext fun k => iblk2 m c t k]

/-- A block's projected row is the token's. -/
theorem yrow_blk (c : Dev nD) (t : Fin cfg0.N) (i : Fin 256) (n : Fin 1792) :
    yrow (iblk m c 0 t) (iblk m c 2 t) (iblk m c 3 t) (iblk m c 4 t) i n = (args m c).y (rb (grow t i)) (rs (grow t i)) n := by
  unfold yrow Args.y
  rw [hrow_blk, show (fun k => (iblk m c 3 t : Vec Ideal S5120x1792 .fp8e4m3) (ix2 k n)) = (fun k => (args m c).w k n) from
      funext fun k => iblk3 m c t k n]
  exact congrArg _ (iblk4 m c t n)

/-- A block's rotated head is the token's. -/
theorem head_blk (c : Dev nD) (t : Fin cfg0.N) (off : ℕ) (ho : off + 128 ≤ 1792) (i : Fin 256) (l : Fin 128) :
    headRow (iblk m c 0 t) (iblk m c 1 t) (iblk m c 2 t) (iblk m c 3 t) (iblk m c 4 t) off ho i l =
      (args m c).head (rb (grow t i)) (rs (grow t i)) off ho l := by
  unfold headRow Args.head
  simp only [yrow_blk]
  exact congrArg (fun p => rot _ p l) (iblk1 m c t i)

/-- The batch of a row of block `t`. -/
theorem rb_grow (t : Fin cfg0.N) (i : Fin 256) : (rb (grow t i)).val = t.val / 24 := by
  have := i.isLt
  show (t.val * 256 + i.val) / 6144 = _
  omega

/-- The sequence position of a row of block `t`. -/
theorem rs_grow (t : Fin cfg0.N) (i : Fin 256) : (rs (grow t i)).val = t.val % 24 * 256 + i.val := by
  have := i.isLt
  show (t.val * 256 + i.val) % 6144 = _
  omega

/-- The codes' array. -/
def codesArr (A : Args) : Vec Ideal S24576x5120 .fp8e4m3 := fun i => code (A.h (rb (i 0)) (rs (i 0))) (i 1)
/-- The scales' array. -/
def scalesArr (A : Args) : Vec Ideal S24576x1 .f32 := fun i => scale (A.h (rb (i 0)) (rs (i 0)))
/-- The query heads' array. -/
def queriesArr (A : Args) : Vec Ideal S4x10x6144x128 .bf16 := fun i =>
  A.head (i 0) (i 2) (128 * (i 1).val) (by have := (i 1).isLt; change (i 1).val < 10 at this; omega) (i 3)
/-- The key heads' array. -/
def keysArr (A : Args) : Vec Ideal S4x2x6144x128 .bf16 := fun i =>
  A.head (i 0) (i 2) (1280 + 128 * (i 1).val) (by have := (i 1).isLt; change (i 1).val < 2 at this; omega) (i 3)
/-- The value heads' array. -/
def valuesArr (A : Args) : Vec Ideal S4x2x6144x128 .bf16 := fun i =>
  A.y (i 0) (i 2) ⟨1536 + 128 * (i 1).val + (i 3).val, by
    have := (i 1).isLt; change (i 1).val < 2 at this; have := (i 3).isLt; change (i 3).val < 128 at this; omega⟩

/-- A block index of the codes. -/
theorem ix2_codes (y : S256x5120.Idx) : ∃ (i : Fin 256) (j : Fin 5120), y = ix2 i j :=
  ⟨y 0, y 1, by funext a; fin_cases a <;> rfl⟩

/-- A block index of the scales. -/
theorem ix2_scales (y : S256x1.Idx) : ∃ i : Fin 256, y = ix2 i 0 :=
  ⟨y 0, by
    funext a
    fin_cases a
    · rfl
    · exact Subsingleton.elim (α := Fin 1) _ _⟩

/-- The codes' array after all grid points. -/
theorem final8 (c : Dev nD) : (dats m 0 c).arrAt 8 (cfgs 0).N = codesArr (args m c) := by
  refine (dats m 0 c).arrAt_eq_of_covers 8 _ (by decide +kernel) fun t hf y => ?_
  blk_simp
  rw [after0_8]
  change S256x5120.Idx at y
  obtain ⟨i, j, rfl⟩ := ix2_codes y
  have e : (((cfg0.win 8).blk t).view.emb (ix2 i j)) = (ix2 (grow t i) j : S24576x5120.Idx) := by
    unfold grow; blk_ext [idx t]
  refine (out8_apply _ _ _ _ _ i j).trans ?_
  refine (congrArg (fun h => code h j) (hrow_blk m c t i)).trans ?_
  exact (congrArg (codesArr (args m c)) e).symm

/-- The scales' array after all grid points. -/
theorem final9 (c : Dev nD) : (dats m 0 c).arrAt 9 (cfgs 0).N = scalesArr (args m c) := by
  refine (dats m 0 c).arrAt_eq_of_covers 9 _ (by decide +kernel) fun t hf y => ?_
  blk_simp
  rw [after0_9]
  change S256x1.Idx at y
  obtain ⟨i, rfl⟩ := ix2_scales y
  have e : (((cfg0.win 9).blk t).view.emb (ix2 i 0)) = (ix2 (grow t i) 0 : S24576x1.Idx) := by
    unfold grow; blk_ext [idx t]
  refine (out9_apply _ _ _ _ _ i).trans ?_
  refine (congrArg scale (hrow_blk m c t i)).trans ?_
  exact (congrArg (scalesArr (args m c)) e).symm

/-- The query heads' array after all grid points. -/
theorem final5 (c : Dev nD) : (dats m 0 c).arrAt 5 (cfgs 0).N = queriesArr (args m c) := by
  refine (dats m 0 c).arrAt_eq_of_covers 5 _ (by decide +kernel) fun t hf y => ?_
  blk_simp
  rw [after0_5]
  change S1x10x256x128.Idx at y
  have e : (((cfg0.win 5).blk t).view.emb y) =
      (ix4 (rb (grow t (y 2))) (y 1 : Fin 10) (rs (grow t (y 2))) (y 3 : Fin 128) : S4x10x6144x128.Idx) := by
    have h0 := rb_grow t (y 2)
    have h2 := rs_grow t (y 2)
    blk_ext [idx t]
  refine (out5_apply _ _ _ _ _ y).trans ?_
  refine (head_blk m c t _ _ _ _ : Q (iblk m c 0 t) (iblk m c 1 t) (iblk m c 2 t) (iblk m c 3 t) (iblk m c 4 t) y = _).trans ?_
  exact (congrArg (queriesArr (args m c)) e).symm

/-- The key heads' array after all grid points. -/
theorem final6 (c : Dev nD) : (dats m 0 c).arrAt 6 (cfgs 0).N = keysArr (args m c) := by
  refine (dats m 0 c).arrAt_eq_of_covers 6 _ (by decide +kernel) fun t hf y => ?_
  blk_simp
  rw [after0_6]
  change S1x2x256x128.Idx at y
  have e : (((cfg0.win 6).blk t).view.emb y) =
      (ix4 (rb (grow t (y 2))) (y 1 : Fin 2) (rs (grow t (y 2))) (y 3 : Fin 128) : S4x2x6144x128.Idx) := by
    have h0 := rb_grow t (y 2)
    have h2 := rs_grow t (y 2)
    blk_ext [idx t]
  refine (out6_apply _ _ _ _ _ y).trans ?_
  refine (head_blk m c t _ _ _ _ : K (iblk m c 0 t) (iblk m c 1 t) (iblk m c 2 t) (iblk m c 3 t) (iblk m c 4 t) y = _).trans ?_
  exact (congrArg (keysArr (args m c)) e).symm

/-- The value heads' array after all grid points. -/
theorem final7 (c : Dev nD) : (dats m 0 c).arrAt 7 (cfgs 0).N = valuesArr (args m c) := by
  refine (dats m 0 c).arrAt_eq_of_covers 7 _ (by decide +kernel) fun t hf y => ?_
  blk_simp
  rw [after0_7]
  change S1x2x256x128.Idx at y
  have e : (((cfg0.win 7).blk t).view.emb y) =
      (ix4 (rb (grow t (y 2))) (y 1 : Fin 2) (rs (grow t (y 2))) (y 3 : Fin 128) : S4x2x6144x128.Idx) := by
    have h0 := rb_grow t (y 2)
    have h2 := rs_grow t (y 2)
    blk_ext [idx t]
  refine (out7_apply _ _ _ _ _ y).trans ?_
  refine (yrow_blk m c t _ _ : W (iblk m c 0 t) (iblk m c 2 t) (iblk m c 3 t) (iblk m c 4 t) y = _).trans ?_
  exact (congrArg (valuesArr (args m c)) e).symm

end Cert.KernelIdeal
-- ==== Proof.Results.lean ====
module

public import proofs.«01_k».proof.Proof.Spec

/-!
# The five results as functions of the arguments
-/

@[expose] public section

noncomputable section

namespace Cert.Spec

open Idealize.ShloMosaic

variable (A : Args)

/-- The rotated query heads: ten heads of 128 columns from column 0. -/
def queries : FVec Ideal ⟨4, ![4, 6144, 10, 128]⟩ .bf16 := fun i =>
  A.head (i 0) (i 1) (128 * (i 2).val) (by have := (i 2).isLt; change (i 2).val < 10 at this; omega) (i 3)
/-- The rotated key heads: two heads of 128 columns from column 1280. -/
def keys : FVec Ideal ⟨4, ![4, 6144, 2, 128]⟩ .bf16 := fun i =>
  A.head (i 0) (i 1) (1280 + 128 * (i 2).val) (by have := (i 2).isLt; change (i 2).val < 2 at this; omega) (i 3)
/-- The value heads: two heads of 128 columns from column 1536. -/
def values : FVec Ideal ⟨4, ![4, 6144, 2, 128]⟩ .bf16 := fun i =>
  A.y (i 0) (i 1) ⟨1536 + 128 * (i 2).val + (i 3).val, by
    have := (i 2).isLt; change (i 2).val < 2 at this; have := (i 3).isLt; change (i 3).val < 128 at this; omega⟩
/-- The codes. -/
def codeResult : FVec Ideal ⟨3, ![4, 6144, 5120]⟩ .fp8e4m3 := fun i => code (A.h (i 0) (i 1)) (i 2)
/-- The scales. -/
def scaleResult : FVec Ideal ⟨3, ![4, 6144, 1]⟩ .f32 := fun i => scale (A.h (i 0) (i 1))

/-- The flattened row of a batch and a sequence position. -/
def row (b : Fin 4) (s : Fin 6144) : Fin 24576 := ⟨b.val * 6144 + s.val, by omega⟩
theorem rb_row (b : Fin 4) (s : Fin 6144) : rb (row b s) = b := by
  apply Fin.ext
  show (b.val * 6144 + s.val) / 6144 = b.val
  omega
theorem rs_row (b : Fin 4) (s : Fin 6144) : rs (row b s) = s := by
  apply Fin.ext
  show (b.val * 6144 + s.val) % 6144 = s.val
  omega

/-- An index of a rank-four array from its coordinates. -/
theorem ix4_eta {a b c d : ℕ} (i : (⟨4, ![a, b, c, d]⟩ : Shape).Idx) :
    ∃ (p : Fin a) (q : Fin b) (r : Fin c) (s : Fin d), i = ix4 p q r s :=
  ⟨i 0, i 1, i 2, i 3, by funext x; fin_cases x <;> rfl⟩
/-- An index of a rank-three array from its coordinates. -/
theorem ix3_eta {a b c : ℕ} (i : (⟨3, ![a, b, c]⟩ : Shape).Idx) : ∃ (p : Fin a) (q : Fin b) (r : Fin c), i = ix3 p q r :=
  ⟨i 0, i 1, i 2, by funext x; fin_cases x <;> rfl⟩

end Cert.Spec
-- ==== Proof.KernelTail.lean ====
module

public import proofs.«01_k».proof.Proof.KernelArrays
public import proofs.«01_k».proof.Proof.Results

/-!
# The kernel's five results
-/

@[expose] public section

set_option maxRecDepth 16384

noncomputable section

namespace Cert.KernelIdeal

open Idealize.ShloMosaic Idealize.ShloMosaic.TcCoe Idealize.SL.Sem Gen Cert.Spec

/-- The query heads' transpose. -/
theorem tail_v5 (V : Valuation τ sig (Elt Ideal)) : StableHlo.after (hostOps1 (F := Ideal)) V (Proc.devRef .tc main_v5) =
    transpose S4x6144x10x128 [0, 2, 1, 3] (V (Proc.devRef .tc main_v4_0) : FVec Ideal S4x10x6144x128 .bf16)
      transposes_S4x10x6144x128_S4x6144x10x128_0_2_1_3 := by
  after_results
  try rfl
/-- The key heads' transpose. -/
theorem tail_v6 (V : Valuation τ sig (Elt Ideal)) : StableHlo.after (hostOps1 (F := Ideal)) V (Proc.devRef .tc main_v6) =
    transpose S4x6144x2x128 [0, 2, 1, 3] (V (Proc.devRef .tc main_v4_1) : FVec Ideal S4x2x6144x128 .bf16)
      transposes_S4x2x6144x128_S4x6144x2x128_0_2_1_3 := by
  after_results
  try rfl
/-- The value heads' transpose. -/
theorem tail_v7 (V : Valuation τ sig (Elt Ideal)) : StableHlo.after (hostOps1 (F := Ideal)) V (Proc.devRef .tc main_v7) =
    transpose S4x6144x2x128 [0, 2, 1, 3] (V (Proc.devRef .tc main_v4_2) : FVec Ideal S4x2x6144x128 .bf16)
      transposes_S4x2x6144x128_S4x6144x2x128_0_2_1_3 := by
  after_results
  try rfl
/-- The codes' reshape. -/
theorem tail_v8 (V : Valuation τ sig (Elt Ideal)) : StableHlo.after (hostOps1 (F := Ideal)) V (Proc.devRef .tc main_v8) =
    shapeCast S4x6144x5120 (V (Proc.devRef .tc main_v4_3) : FVec Ideal S24576x5120 .fp8e4m3) shapeCasts_S24576x5120_S4x6144x5120 := by
  after_results
  try rfl
/-- The scales' reshape. -/
theorem tail_v9 (V : Valuation τ sig (Elt Ideal)) : StableHlo.after (hostOps1 (F := Ideal)) V (Proc.devRef .tc main_v9) =
    shapeCast S4x6144x1 (V (Proc.devRef .tc main_v4_4) : FVec Ideal S24576x1 .f32) shapeCasts_S24576x1_S4x6144x1 := by
  after_results
  try rfl

/-- The query heads' transpose at an index. -/
theorem move_q (X : FVec Ideal S4x10x6144x128 .bf16) (b : Fin 4) (s : Fin 6144) (hd : Fin 10) (l : Fin 128) :
    transpose S4x6144x10x128 [0, 2, 1, 3] X transposes_S4x10x6144x128_S4x6144x10x128_0_2_1_3 (ix4 b s hd l) = X (ix4 b hd s l) := by
  pointwise
/-- The other heads' transpose at an index. -/
theorem move_k (X : FVec Ideal S4x2x6144x128 .bf16) (b : Fin 4) (s : Fin 6144) (hd : Fin 2) (l : Fin 128) :
    transpose S4x6144x2x128 [0, 2, 1, 3] X transposes_S4x2x6144x128_S4x6144x2x128_0_2_1_3 (ix4 b s hd l) = X (ix4 b hd s l) := by
  pointwise
/-- The codes unflattened at an index. -/
theorem cast_codes (X : FVec Ideal S24576x5120 .fp8e4m3) (b : Fin 4) (s : Fin 6144) (k : Fin 5120) :
    shapeCast S4x6144x5120 X shapeCasts_S24576x5120_S4x6144x5120 (ix3 b s k) = X (ix2 (row b s) k) := by
  unfold row
  pointwise
/-- The scales unflattened at an index. -/
theorem cast_scales (X : FVec Ideal S24576x1 .f32) (b : Fin 4) (s : Fin 6144) :
    shapeCast S4x6144x1 X shapeCasts_S24576x1_S4x6144x1 (ix3 b s 0) = X (ix2 (row b s) 0) := by
  unfold row
  pointwise

variable (m : (ℓ : Loc nD τ sig) → Buf (Elt Ideal) ℓ)

/-- The buffers the region leaves. -/
abbrev left (c : Dev nD) : Valuation τ sig (Elt Ideal) :=
  Pipeline.withArrays (cfgs 0).spec c (V0 m c) fun w => (dats m 0 c).arrAt w (cfgs 0).N

theorem inj : Function.Injective (Pipeline.arrRef spec0) := by decide

theorem left_v4_0 (c : Dev nD) : left m c (Proc.devRef .tc main_v4_0) = queriesArr (args m c) :=
  (Pipeline.withArrays_arr spec0 inj c (V0 m c) _ 5).trans (final5 m c)
theorem left_v4_1 (c : Dev nD) : left m c (Proc.devRef .tc main_v4_1) = keysArr (args m c) :=
  (Pipeline.withArrays_arr spec0 inj c (V0 m c) _ 6).trans (final6 m c)
theorem left_v4_2 (c : Dev nD) : left m c (Proc.devRef .tc main_v4_2) = valuesArr (args m c) :=
  (Pipeline.withArrays_arr spec0 inj c (V0 m c) _ 7).trans (final7 m c)
theorem left_v4_3 (c : Dev nD) : left m c (Proc.devRef .tc main_v4_3) = codesArr (args m c) :=
  (Pipeline.withArrays_arr spec0 inj c (V0 m c) _ 8).trans (final8 m c)
theorem left_v4_4 (c : Dev nD) : left m c (Proc.devRef .tc main_v4_4) = scalesArr (args m c) :=
  (Pipeline.withArrays_arr spec0 inj c (V0 m c) _ 9).trans (final9 m c)

/-- The query heads the kernel returns. -/
theorem result_v5 (c : Dev nD) : StableHlo.after (hostOps1 (F := Ideal)) (left m c) (Proc.devRef .tc main_v5) = queries (args m c) := by
  rw [tail_v5, left_v4_0]
  funext i
  obtain ⟨b, s, hd, l, rfl⟩ := ix4_eta (a := 4) (b := 6144) (c := 10) (d := 128) i
  exact move_q _ b s hd l

/-- The key heads the kernel returns. -/
theorem result_v6 (c : Dev nD) : StableHlo.after (hostOps1 (F := Ideal)) (left m c) (Proc.devRef .tc main_v6) = keys (args m c) := by
  rw [tail_v6, left_v4_1]
  funext i
  obtain ⟨b, s, hd, l, rfl⟩ := ix4_eta (a := 4) (b := 6144) (c := 2) (d := 128) i
  exact move_k _ b s hd l

/-- The value heads the kernel returns. -/
theorem result_v7 (c : Dev nD) : StableHlo.after (hostOps1 (F := Ideal)) (left m c) (Proc.devRef .tc main_v7) = values (args m c) := by
  rw [tail_v7, left_v4_2]
  funext i
  obtain ⟨b, s, hd, l, rfl⟩ := ix4_eta (a := 4) (b := 6144) (c := 2) (d := 128) i
  exact move_k _ b s hd l

/-- The codes the kernel returns. -/
theorem result_v8 (c : Dev nD) : StableHlo.after (hostOps1 (F := Ideal)) (left m c) (Proc.devRef .tc main_v8) = codeResult (args m c) := by
  rw [tail_v8, left_v4_3]
  funext i
  obtain ⟨b, s, k, rfl⟩ := ix3_eta (a := 4) (b := 6144) (c := 5120) i
  refine (cast_codes _ b s k).trans ?_
  show code ((args m c).h (rb (row b s)) (rs (row b s))) k = code ((args m c).h b s) k
  rw [rb_row, rs_row]

/-- The scales the kernel returns. -/
theorem result_v9 (c : Dev nD) : StableHlo.after (hostOps1 (F := Ideal)) (left m c) (Proc.devRef .tc main_v9) = scaleResult (args m c) := by
  rw [tail_v9, left_v4_4]
  funext i
  obtain ⟨b, s, k, rfl⟩ := ix3_eta (a := 4) (b := 6144) (c := 1) i
  obtain rfl : k = 0 := Subsingleton.elim _ _
  refine (cast_scales _ b s).trans ?_
  show scale ((args m c).h (rb (row b s)) (rs (row b s))) = scale ((args m c).h b s)
  rw [rb_row, rs_row]

end Cert.KernelIdeal
-- ==== Proof.RefHost.lean ====
module

public import proofs.«01_k».proof.Proof.Gen.ReferenceIdeal.Frame
public import proofs.«01_k».proof.Proof.Exponent

/-!
# The reference's host lines and kernel payloads at an index

The reference's composed terms, in stages, each read at an index in the words of `Cert.Spec`.
-/

@[expose] public section

set_option maxRecDepth 16384

noncomputable section

namespace Cert.ReferenceIdeal

open Idealize.ShloMosaic Idealize.SL.Sem Gen Cert.Spec

/-- The normalised tokens. -/
def hostH (X : FVec Ideal S4x6144x5120 .bf16) (g : FVec Ideal S5120 .f32) : FVec Ideal S4x6144x5120 .f32 :=
  mulf (mulf (extf .f32 X bitsLt_bf16_f32)
    (broadcastInDim S4x6144x5120 ![0, 1, 2] bcast_S4x6144x1_S4x6144x5120_0_1_2
      (Host.rsqrt (addf (Host.divf
          (broadcastInDim S4x6144x1 ![0, 1] bcast_S4x6144_S4x6144x1_0_1
            (Host.reduceAdd (mulf (extf .f32 X bitsLt_bf16_f32) (extf .f32 X bitsLt_bf16_f32)) (constant S_ .f32 0x00000000#32)
              reducesTo_S4x6144x5120_S4x6144_d2 h_S_))
          (broadcastInDim S4x6144x1 ![] bcast_S_S4x6144x1 (constant S_ .f32 0x45A00000#32)))
        (broadcastInDim S4x6144x1 ![] bcast_S_S4x6144x1 (constant S_ .f32 0x358637BD#32))))))
    (broadcastInDim S4x6144x5120 ![0, 1, 2] bcast_S1x1x5120_S4x6144x5120_0_1_2
      (broadcastInDim S1x1x5120 ![2] bcast_S5120_S1x1x5120_2 g))

/-- The constant 5120. -/
theorem lit_5120 : Ideal.ofBits .f32 0x45A00000#32 = ((5120 : ℝ) : EReal) := by
  show Ideal.ieee 8 23 0x45A00000#32 = _
  unfold Ideal.ieee
  norm_num [show (BitVec.extractLsb' 31 1 (0x45A00000#32)) = 0#1 by decide, show (BitVec.extractLsb' 23 8 (0x45A00000#32)) = 139#8 by decide,
    show (BitVec.extractLsb' 0 23 (0x45A00000#32)) = 2097152#23 by decide]

/-- The normalised tokens at an index. -/
theorem hostH_apply (X : FVec Ideal S4x6144x5120 .bf16) (g : FVec Ideal S5120 .f32) (b : Fin 4) (s : Fin 6144) (j : Fin 5120) :
    hostH X g (ix3 b s j) = normRow (fun k => X (ix3 b s k)) (fun k => g (ix1 k)) j := by
  pointwise [hostH]
  rw [lit_5120, Ideal.div_coe (by norm_num)]
  rfl

/-- The projected entries from the codes' products, the rows' scales and the columns' scales. -/
def hostY (acc : FVec Ideal S24576x1792 .f32) (sc : FVec Ideal S24576x1 .f32) (ws : FVec Ideal S1792 .f32) :
    FVec Ideal S4x6144x1792 .f32 :=
  mulf (mulf (shapeCast S4x6144x1792 acc shapeCasts_S24576x1792_S4x6144x1792)
      (broadcastInDim S4x6144x1792 ![0, 1, 2] bcast_S4x6144x1_S4x6144x1792_0_1_2
        (shapeCast S4x6144x1 sc shapeCasts_S24576x1_S4x6144x1)))
    (broadcastInDim S4x6144x1792 ![0, 1, 2] bcast_S1x1x1792_S4x6144x1792_0_1_2
      (broadcastInDim S1x1x1792 ![2] bcast_S1792_S1x1x1792_2 ws))

/-- The projected entries at an index. -/
theorem hostY_apply (acc : FVec Ideal S24576x1792 .f32) (sc : FVec Ideal S24576x1 .f32) (ws : FVec Ideal S1792 .f32)
    (b : Fin 4) (s : Fin 6144) (n : Fin 1792) :
    hostY acc sc ws (ix3 b s n) = acc (ix2 ⟨b.val * 6144 + s.val, by omega⟩ n) * sc (ix2 ⟨b.val * 6144 + s.val, by omega⟩ 0) * ws (ix1 n) := by
  pointwise [hostY]

/-- The angles. -/
def hostAngle (P : IVec S4x6144 32) : FVec Ideal S4x6144x64 .f32 :=
  mulf (broadcastInDim S4x6144x64 ![0, 1, 2] bcast_S4x6144x1_S4x6144x64_0_1_2
      (broadcastInDim S4x6144x1 ![0, 1] bcast_S4x6144_S4x6144x1_0_1 (sitofp .f32 P)))
    (broadcastInDim S4x6144x64 ![0, 1, 2] bcast_S1x1x64_S4x6144x64_0_1_2
      (broadcastInDim S1x1x64 ![2] bcast_S64_S1x1x64_2
        (Host.powf (broadcastInDim S64 ![] bcast_S_S64 (constant S_ .f32 0x461C4000#32))
          (Host.divf (Host.negf (addf (broadcastInDim S64 ![] bcast_S_S64 (constant S_ .f32 0x00000000#32))
              (mulf (broadcastInDim S64 ![] bcast_S_S64 (constant S_ .f32 0x40000000#32)) (sitofp .f32 (iotaInDim S64 32 0)))))
            (broadcastInDim S64 ![] bcast_S_S64 (constant S_ .f32 0x43000000#32))))))

/-- A lane's number as a word, read back. -/
theorem lane_word : ∀ j : Fin 64, (BitVec.ofNat 32 j.val).toInt = (j.val : ℤ) := by decide +kernel

/-- The angles at an index. -/
theorem hostAngle_apply (P : IVec S4x6144 32) (b : Fin 4) (s : Fin 6144) (j : Fin 64) :
    hostAngle P (ix3 b s j) = angle (P (ix2 b s)) j.val := by
  pointwise [hostAngle]
  unfold angle
  have e : FloatOps.sitofp (F := Ideal) FTy.f32 (BitVec.ofNat 32 j.val) = ((j.val : ℝ) : EReal) := by
    show (((_ : ℤ) : ℝ) : EReal) = _
    rw [lane_word]
    push_cast
    rfl
  rw [e, zero_sub]
  rfl

/-- The cosines, ready to multiply heads. -/
def hostCos (P : IVec S4x6144 32) : FVec Ideal S4x6144x1x64 .f32 :=
  broadcastInDim S4x6144x1x64 ![0, 1, 3] bcast_S4x6144x64_S4x6144x1x64_0_1_3 (Host.cos (hostAngle P))

/-- The sines, ready to multiply heads. -/
def hostSin (P : IVec S4x6144 32) : FVec Ideal S4x6144x1x64 .f32 :=
  broadcastInDim S4x6144x1x64 ![0, 1, 3] bcast_S4x6144x64_S4x6144x1x64_0_1_3 (Host.sin (hostAngle P))

/-- The cosines at an index. -/
theorem hostCos_apply (P : IVec S4x6144 32) (b : Fin 4) (s : Fin 6144) (j : Fin 64) :
    hostCos P (ix4 b s 0 j) = Ideal.cos (angle (P (ix2 b s)) j.val) := by
  rw [← hostAngle_apply]
  pointwise [hostCos]

/-- The sines at an index. -/
theorem hostSin_apply (P : IVec S4x6144 32) (b : Fin 4) (s : Fin 6144) (j : Fin 64) :
    hostSin P (ix4 b s 0 j) = Ideal.sin (angle (P (ix2 b s)) j.val) := by
  rw [← hostAngle_apply]
  pointwise [hostSin]

end Cert.ReferenceIdeal
-- ==== Proof.RefRot.lean ====
module

public import proofs.«01_k».proof.Proof.RefHost

/-!
# The reference's rotation and its heads' columns at an index
-/

@[expose] public section

set_option maxRecDepth 16384

noncomputable section

namespace Cert.ReferenceIdeal

open Idealize.ShloMosaic Idealize.SL.Sem Gen Cert.Spec

/-- The rotated query heads. -/
def rotQ (q : FVec Ideal S4x6144x10x128 .f32) (c s : FVec Ideal S4x6144x1x64 .f32) : FVec Ideal S4x6144x10x128 .bf16 :=
  truncf .bf16 (concatenate S4x6144x10x128 3
    [⟨S4x6144x10x64, subf
        (mulf (extractStridedSlice S4x6144x10x64 ![0, 0, 0, 0] q slices_S4x6144x10x128_S4x6144x10x64_0_0_0_0)
          (broadcastInDim S4x6144x10x64 ![0, 1, 2, 3] bcast_S4x6144x1x64_S4x6144x10x64_0_1_2_3 c))
        (mulf (extractStridedSlice S4x6144x10x64 ![0, 0, 0, 64] q slices_S4x6144x10x128_S4x6144x10x64_0_0_0_64)
          (broadcastInDim S4x6144x10x64 ![0, 1, 2, 3] bcast_S4x6144x1x64_S4x6144x10x64_0_1_2_3 s))⟩,
     ⟨S4x6144x10x64, addf
        (mulf (extractStridedSlice S4x6144x10x64 ![0, 0, 0, 64] q slices_S4x6144x10x128_S4x6144x10x64_0_0_0_64)
          (broadcastInDim S4x6144x10x64 ![0, 1, 2, 3] bcast_S4x6144x1x64_S4x6144x10x64_0_1_2_3 c))
        (mulf (extractStridedSlice S4x6144x10x64 ![0, 0, 0, 0] q slices_S4x6144x10x128_S4x6144x10x64_0_0_0_0)
          (broadcastInDim S4x6144x10x64 ![0, 1, 2, 3] bcast_S4x6144x1x64_S4x6144x10x64_0_1_2_3 s))⟩]
    concatenates_S4x6144x10x64_S4x6144x10x64_S4x6144x10x128_d3) bitsLt_bf16_f32

/-- The rotated key heads. -/
def rotK (q : FVec Ideal S4x6144x2x128 .f32) (c s : FVec Ideal S4x6144x1x64 .f32) : FVec Ideal S4x6144x2x128 .bf16 :=
  truncf .bf16 (concatenate S4x6144x2x128 3
    [⟨S4x6144x2x64, subf
        (mulf (extractStridedSlice S4x6144x2x64 ![0, 0, 0, 0] q slices_S4x6144x2x128_S4x6144x2x64_0_0_0_0)
          (broadcastInDim S4x6144x2x64 ![0, 1, 2, 3] bcast_S4x6144x1x64_S4x6144x2x64_0_1_2_3 c))
        (mulf (extractStridedSlice S4x6144x2x64 ![0, 0, 0, 64] q slices_S4x6144x2x128_S4x6144x2x64_0_0_0_64)
          (broadcastInDim S4x6144x2x64 ![0, 1, 2, 3] bcast_S4x6144x1x64_S4x6144x2x64_0_1_2_3 s))⟩,
     ⟨S4x6144x2x64, addf
        (mulf (extractStridedSlice S4x6144x2x64 ![0, 0, 0, 64] q slices_S4x6144x2x128_S4x6144x2x64_0_0_0_64)
          (broadcastInDim S4x6144x2x64 ![0, 1, 2, 3] bcast_S4x6144x1x64_S4x6144x2x64_0_1_2_3 c))
        (mulf (extractStridedSlice S4x6144x2x64 ![0, 0, 0, 0] q slices_S4x6144x2x128_S4x6144x2x64_0_0_0_0)
          (broadcastInDim S4x6144x2x64 ![0, 1, 2, 3] bcast_S4x6144x1x64_S4x6144x2x64_0_1_2_3 s))⟩]
    concatenates_S4x6144x2x64_S4x6144x2x64_S4x6144x2x128_d3) bitsLt_bf16_f32

/-- A rotated query lane. -/
theorem rotQ_apply (q : FVec Ideal S4x6144x10x128 .f32) (P : IVec S4x6144 32) (b : Fin 4) (s : Fin 6144) (hd : Fin 10) (l : Fin 128) :
    rotQ q (hostCos P) (hostSin P) (ix4 b s hd l) = rot (fun l => q (ix4 b s hd l)) (P (ix2 b s)) l := by
  unfold rot
  pointwise [rotQ]
  by_cases h : l.val < 64
  · simp only [h, dif_pos, hostCos_apply, hostSin_apply]
    have e : 64 + l.val = l.val + 64 := by omega
    simp only [e]
  · simp only [h, dif_neg, not_false_eq_true, hostCos_apply, hostSin_apply]
    have e : 64 + (l.val - 64) = l.val := by omega
    simp only [e]

/-- A rotated key lane. -/
theorem rotK_apply (q : FVec Ideal S4x6144x2x128 .f32) (P : IVec S4x6144 32) (b : Fin 4) (s : Fin 6144) (hd : Fin 2) (l : Fin 128) :
    rotK q (hostCos P) (hostSin P) (ix4 b s hd l) = rot (fun l => q (ix4 b s hd l)) (P (ix2 b s)) l := by
  unfold rot
  pointwise [rotK]
  by_cases h : l.val < 64
  · simp only [h, dif_pos, hostCos_apply, hostSin_apply]
    have e : 64 + l.val = l.val + 64 := by omega
    simp only [e]
  · simp only [h, dif_neg, not_false_eq_true, hostCos_apply, hostSin_apply]
    have e : 64 + (l.val - 64) = l.val := by omega
    simp only [e]

/-- The query heads' columns at an index. -/
theorem sliceQ_apply (y : FVec Ideal S4x6144x1792 .f32) (b : Fin 4) (s : Fin 6144) (hd : Fin 10) (l : Fin 128) :
    shapeCast S4x6144x10x128 (extractStridedSlice S4x6144x1280 ![0, 0, 0] y slices_S4x6144x1792_S4x6144x1280_0_0_0)
      shapeCasts_S4x6144x1280_S4x6144x10x128 (ix4 b s hd l) = y (ix3 b s ⟨hd.val * 128 + l.val, by omega⟩) := by
  pointwise

/-- The key heads' columns at an index. -/
theorem sliceK_apply (y : FVec Ideal S4x6144x1792 .f32) (b : Fin 4) (s : Fin 6144) (hd : Fin 2) (l : Fin 128) :
    shapeCast S4x6144x2x128 (extractStridedSlice S4x6144x256 ![0, 0, 1280] y slices_S4x6144x1792_S4x6144x256_0_0_1280)
      shapeCasts_S4x6144x256_S4x6144x2x128 (ix4 b s hd l) = y (ix3 b s ⟨1280 + (hd.val * 128 + l.val), by omega⟩) := by
  pointwise

/-- The value heads' columns at an index. -/
theorem sliceV_apply (y : FVec Ideal S4x6144x1792 .f32) (b : Fin 4) (s : Fin 6144) (hd : Fin 2) (l : Fin 128) :
    truncf .bf16 (shapeCast S4x6144x2x128 (extractStridedSlice S4x6144x256 ![0, 0, 1536] y slices_S4x6144x1792_S4x6144x256_0_0_1536)
      shapeCasts_S4x6144x256_S4x6144x2x128) bitsLt_bf16_f32 (ix4 b s hd l) = y (ix3 b s ⟨1536 + (hd.val * 128 + l.val), by omega⟩) := by
  pointwise

end Cert.ReferenceIdeal
-- ==== Proof.RefTail.lean ====
module

public import proofs.«01_k».proof.Proof.RefRot
public import Idealize.ShloMosaic.Lib.Claim

/-!
# The reference's host operations, read as terms
-/

@[expose] public section

set_option maxRecDepth 16384

noncomputable section

namespace Cert.ReferenceIdeal

open Idealize.ShloMosaic Idealize.ShloMosaic.TcCoe Idealize.SL.Sem Gen Cert.Spec

/-- The projected entries the region's results give. -/
def tailY (V : Valuation τ sig (Elt Ideal)) : FVec Ideal S4x6144x1792 .f32 :=
  hostY (V (Proc.devRef .tc main_v15_2)) (V (Proc.devRef .tc main_v15_1)) (V (Proc.devRef .tc main_arg4))

/-- The codes' result. -/
theorem tail_v16 (V : Valuation τ sig (Elt Ideal)) : StableHlo.after (hostOps1 (F := Ideal)) V (Proc.devRef .tc main_v16) =
    shapeCast S4x6144x5120 (V (Proc.devRef .tc main_v15_0) : FVec Ideal S24576x5120 .fp8e4m3) shapeCasts_S24576x5120_S4x6144x5120 := by
  after_results
  try rfl

/-- The scales' result. -/
theorem tail_v17 (V : Valuation τ sig (Elt Ideal)) : StableHlo.after (hostOps1 (F := Ideal)) V (Proc.devRef .tc main_v17) =
    shapeCast S4x6144x1 (V (Proc.devRef .tc main_v15_1) : FVec Ideal S24576x1 .f32) shapeCasts_S24576x1_S4x6144x1 := by
  after_results
  try rfl

/-- The value heads' result. -/
theorem tail_v78 (V : Valuation τ sig (Elt Ideal)) : StableHlo.after (hostOps1 (F := Ideal)) V (Proc.devRef .tc main_v78) =
    truncf .bf16 (shapeCast S4x6144x2x128 (extractStridedSlice S4x6144x256 ![0, 0, 1536] (tailY V) slices_S4x6144x1792_S4x6144x256_0_0_1536)
      shapeCasts_S4x6144x256_S4x6144x2x128) bitsLt_bf16_f32 := by
  after_results
  try rfl

/-- The query heads' result. -/
theorem tail_v63 (V : Valuation τ sig (Elt Ideal)) : StableHlo.after (hostOps1 (F := Ideal)) V (Proc.devRef .tc main_v63) =
    rotQ (shapeCast S4x6144x10x128 (extractStridedSlice S4x6144x1280 ![0, 0, 0] (tailY V) slices_S4x6144x1792_S4x6144x1280_0_0_0)
      shapeCasts_S4x6144x1280_S4x6144x10x128) (hostCos (V (Proc.devRef .tc main_arg1))) (hostSin (V (Proc.devRef .tc main_arg1))) := by
  after_results
  try rfl

/-- The key heads' result. -/
theorem tail_v77 (V : Valuation τ sig (Elt Ideal)) : StableHlo.after (hostOps1 (F := Ideal)) V (Proc.devRef .tc main_v77) =
    rotK (shapeCast S4x6144x2x128 (extractStridedSlice S4x6144x256 ![0, 0, 1280] (tailY V) slices_S4x6144x1792_S4x6144x256_0_0_1280)
      shapeCasts_S4x6144x256_S4x6144x2x128) (hostCos (V (Proc.devRef .tc main_arg1))) (hostSin (V (Proc.devRef .tc main_arg1))) := by
  after_results
  try rfl

/-- The normalised tokens the region is entered with. -/
theorem head_v14 (V : Valuation τ sig (Elt Ideal)) : StableHlo.after (hostOps0 (F := Ideal)) V (Proc.devRef .tc main_v14) =
    shapeCast S24576x5120 (hostH (V (Proc.devRef .tc main_arg0)) (V (Proc.devRef .tc main_arg2))) shapeCasts_S4x6144x5120_S24576x5120 := by
  after_results
  try rfl

end Cert.ReferenceIdeal
-- ==== Proof.RefPay.lean ====
module

public import proofs.«01_k».proof.Proof.Gen.ReferenceIdeal.Frame
public import proofs.«01_k».proof.Proof.Exponent

/-!
# The reference's kernel payloads at an index
-/

@[expose] public section

set_option maxRecDepth 16384

noncomputable section

namespace Cert.ReferenceIdeal

open Idealize.ShloMosaic Idealize.SL.Sem Gen Cert.Spec

/-- A choice between two values on two conditions at once. -/
theorem sel_and {α : Type} (p q : Prop) [Decidable p] [Decidable q] (x y : α) :
    Scalar.select (IntOp.andi (BitVec.ofBool (decide p)) (BitVec.ofBool (decide q))) x y = if p ∧ q then x else y := by
  by_cases hp : p <;> by_cases hq : q <;> simp [hp, hq, IntOp.andi, Scalar.select]

/-- The exponents from the rows' largest magnitudes, as the reference computes them. -/
def tail (v4 : FVec Ideal S24576x1 .f32) : FVec Ideal S24576x1 .f32 :=
  have cst_1 : Ideal .f32 := Scalar.ofBits .f32 0x3B124925#32
  have v5 : FVec Ideal S24576x1 .f32 := broadcast S24576x1 cst_1
  have v6 : FVec Ideal S24576x1 .f32 := mulf v4 v5
  have v7 : FVec Ideal S24576x1 .f32 := log v6
  have cst_2 : Ideal .f32 := Scalar.ofBits .f32 0x40000000#32
  have v8 : FVec Ideal S24576x1 .f32 := broadcast S24576x1 cst_2
  have v9 : FVec Ideal S24576x1 .f32 := log v8
  have v10 : FVec Ideal S24576x1 .f32 := divf v7 v9
  have cst_3 : Ideal .f32 := Scalar.ofBits .f32 0x00800000#32
  have v11 : FVec Ideal S24576x1 .f32 := broadcast S24576x1 cst_3
  have v12 : IVec S24576x1 1 := cmpf .oge v6 v11
  have cst_4 : Ideal .f32 := Scalar.ofBits .f32 0x7F800000#32
  have v13 : FVec Ideal S24576x1 .f32 := broadcast S24576x1 cst_4
  have v14 : IVec S24576x1 1 := cmpf .olt v6 v13
  have v15 : IVec S24576x1 1 := andi v12 v14
  have v16 : FVec Ideal S24576x1 .f32 := floor v10
  have cst_5 : Ideal .f32 := Scalar.ofBits .f32 0x42FE0000#32
  have v17 : FVec Ideal S24576x1 .f32 := broadcast S24576x1 cst_5
  have v18 : FVec Ideal S24576x1 .f32 := minimumf v16 v17
  have cst_6 : Ideal .f32 := Scalar.ofBits .f32 0x3F800000#32
  have v19 : FVec Ideal S24576x1 .f32 := broadcast S24576x1 cst_6
  have v20 : FVec Ideal S24576x1 .f32 := addf v18 v19
  have cst_7 : Ideal .f32 := Scalar.ofBits .f32 0x00000000#32
  have v21 : FVec Ideal S24576x1 .f32 := broadcast S24576x1 cst_7
  have v22 : FVec Ideal S24576x1 .f32 := select v15 v20 v21
  have cst_8 : Ideal .f32 := Scalar.ofBits .f32 0x00000000#32
  have v23 : FVec Ideal S24576x1 .f32 := broadcast S24576x1 cst_8
  have v24 : IVec S24576x1 1 := cmpf .oeq v4 v23
  have cst_9 : Ideal .f32 := Scalar.ofBits .f32 0x00000000#32
  have v25 : FVec Ideal S24576x1 .f32 := broadcast S24576x1 cst_9
  have v26 : FVec Ideal S24576x1 .f32 := select v24 v25 v22
  v26

/-- An exponent from a row's largest magnitude. -/
theorem tail_apply (v : FVec Ideal S24576x1 .f32) (r : Fin 24576) : tail v (ix2 r 0) = expo (v (ix2 r 0)) := by
  pointwise [tail]
  unfold expo exponent
  rw [lit_one, EReal.coe_one]
  simp only [sel_and]
  rfl

/-- The rows' largest magnitudes. -/
def rowMax (H : Vec Ideal S24576x5120 .f32) : FVec Ideal S24576x1 .f32 :=
  shapeCast S24576x1 (multiReduction .maximumf [1] S24576 (absf (k0_pay2 H)) 0xFF800000#32 reduces_S24576x5120_S24576 (.inl rfl) rfl)
    shapeCasts_S24576_S24576x1

/-- A row's largest magnitude. -/
theorem rowMax_apply (H : Vec Ideal S24576x5120 .f32) (r : Fin 24576) : rowMax H (ix2 r 0) = amax fun k => H (ix2 r k) := by
  pointwise [rowMax, k0_pay2]
  rfl

/-- The exponents, from the rows' largest magnitudes. -/
theorem pay3_eq (H : Vec Ideal S24576x5120 .f32) : k0_pay3 H = tail (rowMax H) := by
  unfold k0_pay3 tail rowMax
  rfl

/-- The exponent of a row. -/
theorem pay3_apply (H : Vec Ideal S24576x5120 .f32) (r : Fin 24576) :
    k0_pay3 H (ix2 r 0) = expo (amax fun k => H (ix2 r k)) := by
  rw [pay3_eq, tail_apply, rowMax_apply]

/-- The codes from the rows and their exponents, as the reference computes them. -/
def codes (h : FVec Ideal S24576x5120 .f32) (e : FVec Ideal S24576x1 .f32) : FVec Ideal S24576x5120 .fp8e4m3 :=
  truncf .fp8e4m3 (minimumf (broadcast S24576x5120 (Scalar.ofBits .f32 0x43E00000#32 : Ideal .f32))
    (maximumf (broadcast S24576x5120 (Scalar.ofBits .f32 0xC3E00000#32 : Ideal .f32))
      (mulf h (broadcastTo S24576x5120 (exp2 (subf (broadcast S24576x1 (Scalar.ofBits .f32 0x00000000#32 : Ideal .f32)) e))
        broadcasts_S24576x1_S24576x5120)))) bitsLt_fp8e4m3_f32

/-- A code from a row's entry and its exponent. -/
theorem codes_apply (h : FVec Ideal S24576x5120 .f32) (e : FVec Ideal S24576x1 .f32) (r : Fin 24576) (j : Fin 5120) :
    codes h e (ix2 r j) = min (lit 1138753536#32) (max (lit 3286237184#32) (h (ix2 r j) * Ideal.exp2 (0 - e (ix2 r 0)))) := by
  pointwise [codes]
  rfl

/-- The codes, from the rows and their exponents. -/
theorem pay4_eq (H : Vec Ideal S24576x5120 .f32) : k0_pay4 H = codes (k0_pay2 H) (k0_pay3 H) := by
  unfold k0_pay4 codes
  rfl

/-- A reshape to the same shape changes nothing. -/
theorem pay2_eq (H : Vec Ideal S24576x5120 .f32) : k0_pay2 H = H := shapeCast_self _ _

/-- A code. -/
theorem pay4_apply (H : Vec Ideal S24576x5120 .f32) (r : Fin 24576) (j : Fin 5120) :
    k0_pay4 H (ix2 r j) = code (fun k => H (ix2 r k)) j := by
  rw [pay4_eq, codes_apply, pay3_apply, pay2_eq]
  unfold code
  with_reducible rfl

/-- Powers of two of the exponents. -/
theorem exp2_apply (e : FVec Ideal S24576x1 .f32) (r : Fin 24576) : exp2 e (ix2 r 0) = Ideal.exp2 (e (ix2 r 0)) := rfl

/-- A row's scale. -/
theorem pay5_apply (H : Vec Ideal S24576x5120 .f32) (r : Fin 24576) :
    k0_pay5 H (ix2 r 0) = scale (fun k => H (ix2 r k)) := by
  unfold k0_pay5
  rw [exp2_apply, pay3_apply]
  unfold scale
  with_reducible rfl

/-- A product of codes with the weight. -/
theorem pay1_apply (C : FVec Ideal S24576x5120 .fp8e4m3) (W : Vec Ideal S5120x1792 .fp8e4m3) (r : Fin 24576) (n : Fin 1792) :
    k0_pay1 C W (ix2 r n) = ∑ k, C (ix2 r k) * W (ix2 k n) := by
  pointwise [k0_pay1]

end Cert.ReferenceIdeal
-- ==== Proof.RefArrays.lean ====
module

public import proofs.«01_k».proof.Proof.RefTail
public import proofs.«01_k».proof.Proof.RefPay
public import proofs.«01_k».proof.Proof.Results
public import Idealize.ShloMosaic.Lib.Pipeline.ValueKit

/-!
# The reference's five results
-/

@[expose] public section

set_option maxRecDepth 16384

noncomputable section

namespace Cert.ReferenceIdeal

open Idealize.ShloMosaic Idealize.ShloMosaic.TcCoe Idealize.SL.Sem Gen Cert.Spec

section out
variable (x0 : Vec Ideal S24576x5120 .f32) (x1 : Vec Ideal S5120x1792 .fp8e4m3)

theorem hz2 : (![0, 0] : Fin 2 → Nat) = fun _ => 0 := funext fun a => by fin_cases a <;> rfl

/-- What the body leaves of the codes. -/
theorem out2_eq : out0_2 x0 x1 = k0_pay4 x0 := by
  unfold out0_2
  rw [View.canon_unit_zero hz2, View.ld_unit_zero hz2]
/-- What the body leaves of the scales. -/
theorem out3_eq : out0_3 x0 x1 = k0_pay5 x0 := by
  unfold out0_3
  rw [View.canon_unit_zero hz2, View.ld_unit_zero hz2]
/-- What the body leaves of the products. -/
theorem out4_eq : out0_4 x0 x1 = k0_pay1 (k0_pay4 x0) x1 := by
  unfold out0_4
  rw [View.canon_unit_zero hz2, View.ld_unit_zero hz2, View.ld_unit_zero hz2]

end out

variable (m : (ℓ : Loc nD τ sig) → Buf (Elt Ideal) ℓ)

/-- The arguments the reference starts with. -/
def args (c : Dev nD) : Args :=
  mkArgs (m ((c : Thread nD τ).loc main_arg0)) (m ((c : Thread nD τ).loc main_arg1)) (m ((c : Thread nD τ).loc main_arg2))
    (m ((c : Thread nD τ).loc main_arg3)) (m ((c : Thread nD τ).loc main_arg4))

/-- The rows the region is entered with. -/
abbrev rows (c : Dev nD) : Vec Ideal S24576x5120 .f32 := V m c main_v14

/-- Flattened rows at a row and a column. -/
theorem cast_h (X : FVec Ideal S4x6144x5120 .f32) (r : Fin 24576) (k : Fin 5120) :
    shapeCast S24576x5120 X shapeCasts_S4x6144x5120_S24576x5120 (ix2 r k) = X (ix3 (rb r) (rs r) k) := by
  unfold rb rs
  pointwise

/-- The region's rows are the normalised tokens. -/
theorem rows_apply (c : Dev nD) (r : Fin 24576) (k : Fin 5120) : rows m c (ix2 r k) = (args m c).h (rb r) (rs r) k := by
  have e : rows m c = _ := head_v14 (fun b => m (c, b))
  rw [e, cast_h, hostH_apply]
  rfl

theorem rows_eq (c : Dev nD) (r : Fin 24576) : (fun k => rows m c (ix2 r k)) = (args m c).h (rb r) (rs r) :=
  funext fun k => rows_apply m c r k

/-- The windows' block indices at the one grid point. -/
theorem idx : ∀ t : Fin cfg0.N, win0_0.index t = ![0, 0] ∧ win0_1.index t = ![0, 0] ∧ win0_2.index t = ![0, 0] ∧
    win0_3.index t = ![0, 0] ∧ win0_4.index t = ![0, 0] :=
  (by decide +kernel : ∀ t : Fin grid0.N, _)

/-- The one grid point's block of rows is all of them. -/
theorem iblk0_eq (c : Dev nD) : (iblk m c 0 t0_0 : Vec Ideal S24576x5120 .f32) = rows m c := by
  blk_ext! [iblk, idx t0_0]

/-- The one grid point's block of the weight is all of it. -/
theorem iblk1_eq (c : Dev nD) : (iblk m c 1 t0_0 : Vec Ideal S5120x1792 .fp8e4m3) = m ((c : Thread nD τ).loc main_arg3) := by
  blk_ext! [iblk, V, idx t0_0]

/-- The codes' array after the region. -/
theorem final2 (c : Dev nD) : (dats m 0 c).arrAt 2 (cfgs 0).N = k0_pay4 (rows m c) := by
  refine (dats m 0 c).arrAt_eq_of_after_last 2 t0_0 (by decide +kernel) _ fun j => ?_
  blk_simp
  rw [after0_2, out2_eq, iblk0_eq]

/-- The scales' array after the region. -/
theorem final3 (c : Dev nD) : (dats m 0 c).arrAt 3 (cfgs 0).N = k0_pay5 (rows m c) := by
  refine (dats m 0 c).arrAt_eq_of_after_last 3 t0_0 (by decide +kernel) _ fun j => ?_
  blk_simp
  rw [after0_3, out3_eq, iblk0_eq]

/-- The products' array after the region. -/
theorem final4 (c : Dev nD) : (dats m 0 c).arrAt 4 (cfgs 0).N = k0_pay1 (k0_pay4 (rows m c)) (m ((c : Thread nD τ).loc main_arg3)) := by
  refine (dats m 0 c).arrAt_eq_of_after_last 4 t0_0 (by decide +kernel) _ fun j => ?_
  blk_simp
  rw [after0_4, out4_eq, iblk0_eq, iblk1_eq]

/-- The buffers the region leaves. -/
abbrev left (c : Dev nD) : Valuation τ sig (Elt Ideal) :=
  Pipeline.withArrays (cfgs 0).spec c (V0 m c) fun w => (dats m 0 c).arrAt w (cfgs 0).N

theorem inj : Function.Injective (Pipeline.arrRef spec0) := by decide

theorem left_v15_0 (c : Dev nD) : left m c (Proc.devRef .tc main_v15_0) = k0_pay4 (rows m c) :=
  (Pipeline.withArrays_arr spec0 inj c (V0 m c) _ 2).trans (final2 m c)
theorem left_v15_1 (c : Dev nD) : left m c (Proc.devRef .tc main_v15_1) = k0_pay5 (rows m c) :=
  (Pipeline.withArrays_arr spec0 inj c (V0 m c) _ 3).trans (final3 m c)
theorem left_v15_2 (c : Dev nD) : left m c (Proc.devRef .tc main_v15_2) =
    k0_pay1 (k0_pay4 (rows m c)) (m ((c : Thread nD τ).loc main_arg3)) :=
  (Pipeline.withArrays_arr spec0 inj c (V0 m c) _ 4).trans (final4 m c)
theorem left_arg1 (c : Dev nD) : left m c (Proc.devRef .tc main_arg1) = m ((c : Thread nD τ).loc main_arg1) :=
  (Pipeline.withArrays_of_ne spec0 c (V0 m c) _ main_arg1 (by exact (by decide : ∀ w, Pipeline.arrRef spec0 w ≠ main_arg1))).trans
    (V_main_arg1 m c)
theorem left_arg4 (c : Dev nD) : left m c (Proc.devRef .tc main_arg4) = m ((c : Thread nD τ).loc main_arg4) :=
  (Pipeline.withArrays_of_ne spec0 c (V0 m c) _ main_arg4 (by exact (by decide : ∀ w, Pipeline.arrRef spec0 w ≠ main_arg4))).trans
    (V_main_arg4 m c)

/-- A code of a token. -/
theorem codes_row (c : Dev nD) (b : Fin 4) (s : Fin 6144) (k : Fin 5120) :
    k0_pay4 (rows m c) (ix2 (row b s) k) = code ((args m c).h b s) k := by
  rw [pay4_apply, rows_eq, rb_row, rs_row]

/-- A scale of a token. -/
theorem scales_row (c : Dev nD) (b : Fin 4) (s : Fin 6144) :
    k0_pay5 (rows m c) (ix2 (row b s) 0) = scale ((args m c).h b s) := by
  rw [pay5_apply, rows_eq, rb_row, rs_row]

/-- A product of a token's codes. -/
theorem products_row (c : Dev nD) (b : Fin 4) (s : Fin 6144) (n : Fin 1792) :
    k0_pay1 (k0_pay4 (rows m c)) (m ((c : Thread nD τ).loc main_arg3)) (ix2 (row b s) n) =
      ∑ k, code ((args m c).h b s) k * (args m c).w k n := by
  rw [pay1_apply]
  refine Finset.sum_congr rfl fun k _ => ?_
  rw [codes_row]
  rfl

/-- A token's projected entry. -/
theorem tailY_apply (c : Dev nD) (b : Fin 4) (s : Fin 6144) (n : Fin 1792) :
    tailY (left m c) (ix3 b s n) = (args m c).y b s n := by
  unfold tailY
  rw [left_v15_2, left_v15_1, left_arg4, hostY_apply]
  unfold Args.y proj
  rw [← products_row m c b s n, ← scales_row m c b s]
  rfl

/-- The codes unflattened at an index. -/
theorem cast_codes (X : FVec Ideal S24576x5120 .fp8e4m3) (b : Fin 4) (s : Fin 6144) (k : Fin 5120) :
    shapeCast S4x6144x5120 X shapeCasts_S24576x5120_S4x6144x5120 (ix3 b s k) = X (ix2 (row b s) k) := by
  unfold row
  pointwise

/-- The scales unflattened at an index. -/
theorem cast_scales (X : FVec Ideal S24576x1 .f32) (b : Fin 4) (s : Fin 6144) :
    shapeCast S4x6144x1 X shapeCasts_S24576x1_S4x6144x1 (ix3 b s 0) = X (ix2 (row b s) 0) := by
  unfold row
  pointwise

/-- The codes the reference returns. -/
theorem result_v16 (c : Dev nD) : StableHlo.after (hostOps1 (F := Ideal)) (left m c) (Proc.devRef .tc main_v16) = codeResult (args m c) := by
  rw [tail_v16, left_v15_0]
  funext i
  obtain ⟨b, s, k, rfl⟩ := ix3_eta (a := 4) (b := 6144) (c := 5120) i
  exact (cast_codes _ b s k).trans (codes_row m c b s k)

/-- The scales the reference returns. -/
theorem result_v17 (c : Dev nD) : StableHlo.after (hostOps1 (F := Ideal)) (left m c) (Proc.devRef .tc main_v17) = scaleResult (args m c) := by
  rw [tail_v17, left_v15_1]
  funext i
  obtain ⟨b, s, k, rfl⟩ := ix3_eta (a := 4) (b := 6144) (c := 1) i
  obtain rfl : k = 0 := Subsingleton.elim _ _
  exact (cast_scales _ b s).trans (scales_row m c b s)

/-- The query heads the reference returns. -/
theorem result_v63 (c : Dev nD) : StableHlo.after (hostOps1 (F := Ideal)) (left m c) (Proc.devRef .tc main_v63) = queries (args m c) := by
  rw [tail_v63, left_arg1]
  funext i
  obtain ⟨b, s, hd, l, rfl⟩ := ix4_eta (a := 4) (b := 6144) (c := 10) (d := 128) i
  refine (rotQ_apply _ _ b s hd l).trans ?_
  refine congrArg (fun y => rot y ((args m c).pos b s) l)
    (a₂ := fun l : Fin 128 => (args m c).y b s ⟨128 * hd.val + l.val, by omega⟩) (funext fun l => ?_)
  refine (sliceQ_apply _ b s hd l).trans ((tailY_apply m c b s _).trans (congrArg ((args m c).y b s) (Fin.ext ?_)))
  show hd.val * 128 + l.val = 128 * hd.val + l.val
  omega

/-- The key heads the reference returns. -/
theorem result_v77 (c : Dev nD) : StableHlo.after (hostOps1 (F := Ideal)) (left m c) (Proc.devRef .tc main_v77) = keys (args m c) := by
  rw [tail_v77, left_arg1]
  funext i
  obtain ⟨b, s, hd, l, rfl⟩ := ix4_eta (a := 4) (b := 6144) (c := 2) (d := 128) i
  refine (rotK_apply _ _ b s hd l).trans ?_
  refine congrArg (fun y => rot y ((args m c).pos b s) l)
    (a₂ := fun l : Fin 128 => (args m c).y b s ⟨1280 + 128 * hd.val + l.val, by omega⟩) (funext fun l => ?_)
  refine (sliceK_apply _ b s hd l).trans ((tailY_apply m c b s _).trans (congrArg ((args m c).y b s) (Fin.ext ?_)))
  show 1280 + (hd.val * 128 + l.val) = 1280 + 128 * hd.val + l.val
  omega

/-- The value heads the reference returns. -/
theorem result_v78 (c : Dev nD) : StableHlo.after (hostOps1 (F := Ideal)) (left m c) (Proc.devRef .tc main_v78) = values (args m c) := by
  rw [tail_v78]
  funext i
  obtain ⟨b, s, hd, l, rfl⟩ := ix4_eta (a := 4) (b := 6144) (c := 2) (d := 128) i
  refine (sliceV_apply _ b s hd l).trans ((tailY_apply m c b s _).trans (congrArg ((args m c).y b s) (Fin.ext ?_)))
  show 1536 + (hd.val * 128 + l.val) = 1536 + 128 * hd.val + l.val
  omega

end Cert.ReferenceIdeal
-- ==== Proof.lean ====
module

public import proofs.«01_k».proof.Defs
public import proofs.«01_k».proof.Proof.Gen.Kernel.Frame
public import proofs.«01_k».proof.Proof.KernelTail
public import proofs.«01_k».proof.Proof.RefArrays

/-!
# The certificate

The frames of the three programs, the named constant, and the equality of the kernel's and the reference's five results over the
extended reals.
-/

@[expose] public section

set_option maxRecDepth 16384

open Idealize.ShloMosaic Idealize.ShloMosaic.TcCoe Idealize.SL.Sem Cert.Spec

namespace Cert.KernelIdeal
open Gen

variable (m : (ℓ : Loc nD τ sig) → Buf (Elt Ideal) ℓ)

/-- What a buffer outside the region holds at the end. -/
theorem end_eq (c : Dev nD) (b : Ref sig .tc) : Pipeline.afterTail₀ cfgs (dats m) 0 (V0 m) [hostOps1] c b =
    StableHlo.after (hostOps1 (F := Ideal)) (left m c) (Proc.devRef .tc b) := by
  unfold Pipeline.afterTail₀
  rw [List.flatten_singleton]

/-- Every run of the kernel ends with the five results at the arguments' values. -/
theorem results (ρ : Dev nD → PrngReg) : θ_run defs (onTc (τ := τ) (main (F := Ideal))) ⟨m, fun _ => 0, ρ⟩ (fun r => ∀ c : Dev nD,
    r.2.mem ((c.tc : Thread nD τ).loc main_v5) = queries (args m c)
    ∧ r.2.mem ((c.tc : Thread nD τ).loc main_v6) = keys (args m c)
    ∧ r.2.mem ((c.tc : Thread nD τ).loc main_v7) = values (args m c)
    ∧ r.2.mem ((c.tc : Thread nD τ).loc main_v8) = codeResult (args m c)
    ∧ r.2.mem ((c.tc : Thread nD τ).loc main_v9) = scaleResult (args m c)) :=
  (θ_run defs _ _).mono (fun _ h c =>
    ⟨(((h c).2 main_v5 (Pipeline.mem_restRefs_of main_v5 (by decide) (by decide))).trans ((end_eq m c main_v5).trans (result_v5 m c))),
     (((h c).2 main_v6 (Pipeline.mem_restRefs_of main_v6 (by decide) (by decide))).trans ((end_eq m c main_v6).trans (result_v6 m c))),
     (((h c).2 main_v7 (Pipeline.mem_restRefs_of main_v7 (by decide) (by decide))).trans ((end_eq m c main_v7).trans (result_v7 m c))),
     (((h c).2 main_v8 (Pipeline.mem_restRefs_of main_v8 (by decide) (by decide))).trans ((end_eq m c main_v8).trans (result_v8 m c))),
     (((h c).2 main_v9 (Pipeline.mem_restRefs_of main_v9 (by decide) (by decide))).trans ((end_eq m c main_v9).trans (result_v9 m c)))⟩)
    (run_main m ρ)

end Cert.KernelIdeal

namespace Cert.ReferenceIdeal
open Gen

variable (m : (ℓ : Loc nD τ sig) → Buf (Elt Ideal) ℓ)

/-- What a buffer outside the region holds at the end. -/
theorem end_eq (c : Dev nD) (b : Ref sig .tc) : Pipeline.afterTail₀ cfgs (dats m) 0 (V0 m) [hostOps1] c b =
    StableHlo.after (hostOps1 (F := Ideal)) (left m c) (Proc.devRef .tc b) := by
  unfold Pipeline.afterTail₀
  rw [List.flatten_singleton]

/-- Every run of the reference ends with the five results at the arguments' values. -/
theorem results (ρ : Dev nD → PrngReg) : θ_run defs (onTc (τ := τ) (main (F := Ideal))) ⟨m, fun _ => 0, ρ⟩ (fun r => ∀ c : Dev nD,
    r.2.mem ((c.tc : Thread nD τ).loc main_v63) = queries (args m c)
    ∧ r.2.mem ((c.tc : Thread nD τ).loc main_v77) = keys (args m c)
    ∧ r.2.mem ((c.tc : Thread nD τ).loc main_v78) = values (args m c)
    ∧ r.2.mem ((c.tc : Thread nD τ).loc main_v16) = codeResult (args m c)
    ∧ r.2.mem ((c.tc : Thread nD τ).loc main_v17) = scaleResult (args m c)) :=
  (θ_run defs _ _).mono (fun _ h c =>
    ⟨(((h c).2 main_v63 (Pipeline.mem_restRefs_of main_v63 (by decide) (by decide))).trans ((end_eq m c main_v63).trans (result_v63 m c))),
     (((h c).2 main_v77 (Pipeline.mem_restRefs_of main_v77 (by decide) (by decide))).trans ((end_eq m c main_v77).trans (result_v77 m c))),
     (((h c).2 main_v78 (Pipeline.mem_restRefs_of main_v78 (by decide) (by decide))).trans ((end_eq m c main_v78).trans (result_v78 m c))),
     (((h c).2 main_v16 (Pipeline.mem_restRefs_of main_v16 (by decide) (by decide))).trans ((end_eq m c main_v16).trans (result_v16 m c))),
     (((h c).2 main_v17 (Pipeline.mem_restRefs_of main_v17 (by decide) (by decide))).trans ((end_eq m c main_v17).trans (result_v17 m c)))⟩)
    (run_main m ρ)

end Cert.ReferenceIdeal

/-- From equal arguments the kernel and the reference end with equal results, all five of them. -/
theorem Cert.Proof.algebraic : Cert.algebraic_KernelIdeal_ReferenceIdeal (hKernelIdeal := Cert.KernelIdeal.Gen.facts)
    (hReferenceIdeal := Cert.ReferenceIdeal.Gen.facts) := by
  intro m g m' g' _ hagree
  have e : ∀ c : Dev Cert.KernelIdeal.nD, Cert.ReferenceIdeal.args m' c = Cert.KernelIdeal.args m c := fun c => by
    obtain ⟨h0, h1, h2, h3, h4⟩ := hagree c
    unfold Cert.ReferenceIdeal.args Cert.KernelIdeal.args
    rw [h0, h1, h2, h3, h4]
  refine ⟨fun c => queries (Cert.KernelIdeal.args m c), fun c => keys (Cert.KernelIdeal.args m c),
    fun c => values (Cert.KernelIdeal.args m c), fun c => codeResult (Cert.KernelIdeal.args m c),
    fun c => scaleResult (Cert.KernelIdeal.args m c), ?_, ?_⟩
  · refine (θ_run _ _ _).mono (fun r h c => ?_) (θ_run_and (Cert.KernelIdeal.results m g) (Cert.KernelIdeal.Gen.unchanged m g))
    obtain ⟨a0, a1, a2, a3, a4⟩ := h.1 c
    exact ⟨a0, a1, a2, a3, a4, h.2 c⟩
  · refine (θ_run _ _ _).mono (fun r h c => ?_) (θ_run_and (Cert.ReferenceIdeal.results m' g') (Cert.ReferenceIdeal.Gen.unchanged m' g'))
    obtain ⟨a0, a1, a2, a3, a4⟩ := h.1 c
    rw [e c] at a0 a1 a2 a3 a4
    exact ⟨a0, a1, a2, a3, a4, h.2 c⟩

/-- Everything claimed. -/
theorem Cert.Proof.claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ,
    IdealRules.named_const.statement Cert.KernelIdeal.κ "inv_d" .f32 0x394CCCCD#32 ((1 / 5120 : ℝ) : EReal) rfl,
    Cert.Proof.algebraic⟩
